-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S3x512x256 : Shape := ⟨3, ![3, 512, 256]⟩
abbrev S6x3 : Shape := ⟨2, ![6, 3]⟩
abbrev S_ : Shape := ⟨0, ![]⟩
abbrev S1x1 : Shape := ⟨2, ![1, 1]⟩
abbrev S1x88x256 : Shape := ⟨3, ![1, 88, 256]⟩
abbrev S88x256 : Shape := ⟨2, ![88, 256]⟩
abbrev S1x80x256 : Shape := ⟨3, ![1, 80, 256]⟩
abbrev S80x256 : Shape := ⟨2, ![80, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S3x512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_21 : BitVec 32 := 1#32
  let v49 : BitVec 32 := Scalar.muli v15 c1_i32_21
  let v50 : BitVec 32 := Scalar.addi c0_i32_22 v49
  v50.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v17 : BitVec 1 := Scalar.cmpi .sgt v2 c0_i32_6
  let v18 : BitVec 32 := Scalar.extui v17
  let c0_i32_7 : BitVec 32 := 0#32
  let v19 : BitVec 1 := Scalar.cmpi .slt v2 c0_i32_7
  let v20 : BitVec 32 := Scalar.extui v19
  let v21 : BitVec 32 := Scalar.subi v18 v20
  let c4_i32 : BitVec 32 := 4#32
  let c0_i32_8 : BitVec 32 := 0#32
  let v22 : BitVec 1 := Scalar.cmpi .sgt c4_i32 c0_i32_8
  let v23 : BitVec 32 := Scalar.extui v22
  let c0_i32_9 : BitVec 32 := 0#32
  let v24 : BitVec 1 := Scalar.cmpi .slt c4_i32 c0_i32_9
  let v25 : BitVec 32 := Scalar.extui v24
  let v26 : BitVec 32 := Scalar.subi v23 v25
  let v27 : BitVec 1 := Scalar.cmpi .ne v21 v26
  let v28 : BitVec 32 := Scalar.remsi v2 c4_i32
  let c0_i32_10 : BitVec 32 := 0#32
  let v29 : BitVec 1 := Scalar.cmpi .ne v28 c0_i32_10
  let v30 : BitVec 1 := Scalar.andi v27 v29
  let v16 : BitVec 32 := Scalar.divsi v2 c4_i32
  let c1_i32_11 : BitVec 32 := 1#32
  let v31 : BitVec 32 := Scalar.subi v16 c1_i32_11
  let v32 : BitVec 32 := Scalar.select v30 v31 v16
  let c4_i32_12 : BitVec 32 := 4#32
  let v33 : BitVec 32 := Scalar.muli v32 c4_i32_12
  let c3_i32 : BitVec 32 := 3#32
  let v34 : BitVec 32 := Scalar.addi v33 c3_i32
  let v35 : BitVec 32 := Scalar.subi v2 v33
  let v36 : BitVec 32 := Scalar.subi v34 v35
  let c1_i32_24 : BitVec 32 := 1#32
  let v51 : BitVec 32 := Scalar.muli v36 c1_i32_24
  let v52 : BitVec 32 := Scalar.addi c0_i32_25 v51
  v52.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v37 : BitVec 32 := Scalar.addi v2 c4_i32_13
  let c8_i32_14 : BitVec 32 := 8#32
  let c0_i32_15 : BitVec 32 := 0#32
  let v38 : BitVec 1 := Scalar.cmpi .eq c8_i32_14 c0_i32_15
  let c1_i32_16 : BitVec 32 := 1#32
  let v39 : BitVec 32 := Scalar.select v38 c1_i32_16 c8_i32_14
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c1_i32_27 : BitVec 32 := 1#32
  let v53 : BitVec 32 := Scalar.muli v47 c1_i32_27
  let v54 : BitVec 32 := Scalar.addi c0_i32_28 v53
  v54.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_38 : BitVec 32 := 1#32
  let v60 : BitVec 32 := Scalar.muli v15 c1_i32_38
  let v61 : BitVec 32 := Scalar.addi c0_i32_39 v60
  v61.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v17 : BitVec 1 := Scalar.cmpi .sgt v2 c0_i32_6
  let v18 : BitVec 32 := Scalar.extui v17
  let c0_i32_7 : BitVec 32 := 0#32
  let v19 : BitVec 1 := Scalar.cmpi .slt v2 c0_i32_7
  let v20 : BitVec 32 := Scalar.extui v19
  let v21 : BitVec 32 := Scalar.subi v18 v20
  let c4_i32 : BitVec 32 := 4#32
  let c0_i32_8 : BitVec 32 := 0#32
  let v22 : BitVec 1 := Scalar.cmpi .sgt c4_i32 c0_i32_8
  let v23 : BitVec 32 := Scalar.extui v22
  let c0_i32_9 : BitVec 32 := 0#32
  let v24 : BitVec 1 := Scalar.cmpi .slt c4_i32 c0_i32_9
  let v25 : BitVec 32 := Scalar.extui v24
  let v26 : BitVec 32 := Scalar.subi v23 v25
  let v27 : BitVec 1 := Scalar.cmpi .ne v21 v26
  let v28 : BitVec 32 := Scalar.remsi v2 c4_i32
  let c0_i32_10 : BitVec 32 := 0#32
  let v29 : BitVec 1 := Scalar.cmpi .ne v28 c0_i32_10
  let v30 : BitVec 1 := Scalar.andi v27 v29
  let v16 : BitVec 32 := Scalar.divsi v2 c4_i32
  let c1_i32_11 : BitVec 32 := 1#32
  let v31 : BitVec 32 := Scalar.subi v16 c1_i32_11
  let v32 : BitVec 32 := Scalar.select v30 v31 v16
  let c4_i32_12 : BitVec 32 := 4#32
  let v33 : BitVec 32 := Scalar.muli v32 c4_i32_12
  let c3_i32 : BitVec 32 := 3#32
  let v34 : BitVec 32 := Scalar.addi v33 c3_i32
  let v35 : BitVec 32 := Scalar.subi v2 v33
  let v36 : BitVec 32 := Scalar.subi v34 v35
  let c1_i32_49 : BitVec 32 := 1#32
  let v69 : BitVec 32 := Scalar.muli v36 c1_i32_49
  let v70 : BitVec 32 := Scalar.addi c0_i32_50 v69
  v70.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v37 : BitVec 32 := Scalar.addi v2 c4_i32_13
  let c8_i32_14 : BitVec 32 := 8#32
  let c0_i32_15 : BitVec 32 := 0#32
  let v38 : BitVec 1 := Scalar.cmpi .eq c8_i32_14 c0_i32_15
  let c1_i32_16 : BitVec 32 := 1#32
  let v39 : BitVec 32 := Scalar.select v38 c1_i32_16 c8_i32_14
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c1_i32_59 : BitVec 32 := 1#32
  let v78 : BitVec 32 := Scalar.muli v47 c1_i32_59
  let v79 : BitVec 32 := Scalar.addi c0_i32_60 v78
  v79.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_69 : BitVec 32 := 1#32
  let v87 : BitVec 32 := Scalar.muli v15 c1_i32_69
  let v88 : BitVec 32 := Scalar.addi c0_i32_70 v87
  v88.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v17 : BitVec 1 := Scalar.cmpi .sgt v2 c0_i32_6
  let v18 : BitVec 32 := Scalar.extui v17
  let c0_i32_7 : BitVec 32 := 0#32
  let v19 : BitVec 1 := Scalar.cmpi .slt v2 c0_i32_7
  let v20 : BitVec 32 := Scalar.extui v19
  let v21 : BitVec 32 := Scalar.subi v18 v20
  let c4_i32 : BitVec 32 := 4#32
  let c0_i32_8 : BitVec 32 := 0#32
  let v22 : BitVec 1 := Scalar.cmpi .sgt c4_i32 c0_i32_8
  let v23 : BitVec 32 := Scalar.extui v22
  let c0_i32_9 : BitVec 32 := 0#32
  let v24 : BitVec 1 := Scalar.cmpi .slt c4_i32 c0_i32_9
  let v25 : BitVec 32 := Scalar.extui v24
  let v26 : BitVec 32 := Scalar.subi v23 v25
  let v27 : BitVec 1 := Scalar.cmpi .ne v21 v26
  let v28 : BitVec 32 := Scalar.remsi v2 c4_i32
  let c0_i32_10 : BitVec 32 := 0#32
  let v29 : BitVec 1 := Scalar.cmpi .ne v28 c0_i32_10
  let v30 : BitVec 1 := Scalar.andi v27 v29
  let v16 : BitVec 32 := Scalar.divsi v2 c4_i32
  let c1_i32_11 : BitVec 32 := 1#32
  let v31 : BitVec 32 := Scalar.subi v16 c1_i32_11
  let v32 : BitVec 32 := Scalar.select v30 v31 v16
  let c4_i32_12 : BitVec 32 := 4#32
  let v33 : BitVec 32 := Scalar.muli v32 c4_i32_12
  let c3_i32 : BitVec 32 := 3#32
  let v34 : BitVec 32 := Scalar.addi v33 c3_i32
  let v35 : BitVec 32 := Scalar.subi v2 v33
  let v36 : BitVec 32 := Scalar.subi v34 v35
  let c1_i32_79 : BitVec 32 := 1#32
  let v96 : BitVec 32 := Scalar.muli v36 c1_i32_79
  let v97 : BitVec 32 := Scalar.addi c0_i32_80 v96
  v97.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v37 : BitVec 32 := Scalar.addi v2 c4_i32_13
  let c8_i32_14 : BitVec 32 := 8#32
  let c0_i32_15 : BitVec 32 := 0#32
  let v38 : BitVec 1 := Scalar.cmpi .eq c8_i32_14 c0_i32_15
  let c1_i32_16 : BitVec 32 := 1#32
  let v39 : BitVec 32 := Scalar.select v38 c1_i32_16 c8_i32_14
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c1_i32_88 : BitVec 32 := 1#32
  let v105 : BitVec 32 := Scalar.muli v47 c1_i32_88
  let v106 : BitVec 32 := Scalar.addi c0_i32_89 v105
  v106.toNat
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v17 : BitVec 1 := Scalar.cmpi .sgt v2 c0_i32_6
  let v18 : BitVec 32 := Scalar.extui v17
  let c0_i32_7 : BitVec 32 := 0#32
  let v19 : BitVec 1 := Scalar.cmpi .slt v2 c0_i32_7
  let v20 : BitVec 32 := Scalar.extui v19
  let v21 : BitVec 32 := Scalar.subi v18 v20
  let c4_i32 : BitVec 32 := 4#32
  let c0_i32_8 : BitVec 32 := 0#32
  let v22 : BitVec 1 := Scalar.cmpi .sgt c4_i32 c0_i32_8
  let v23 : BitVec 32 := Scalar.extui v22
  let c0_i32_9 : BitVec 32 := 0#32
  let v24 : BitVec 1 := Scalar.cmpi .slt c4_i32 c0_i32_9
  let v25 : BitVec 32 := Scalar.extui v24
  let v26 : BitVec 32 := Scalar.subi v23 v25
  let v27 : BitVec 1 := Scalar.cmpi .ne v21 v26
  let v28 : BitVec 32 := Scalar.remsi v2 c4_i32
  let c0_i32_10 : BitVec 32 := 0#32
  let v29 : BitVec 1 := Scalar.cmpi .ne v28 c0_i32_10
  let v30 : BitVec 1 := Scalar.andi v27 v29
  let v16 : BitVec 32 := Scalar.divsi v2 c4_i32
  let c1_i32_11 : BitVec 32 := 1#32
  let v31 : BitVec 32 := Scalar.subi v16 c1_i32_11
  let v32 : BitVec 32 := Scalar.select v30 v31 v16
  let c4_i32_12 : BitVec 32 := 4#32
  let v33 : BitVec 32 := Scalar.muli v32 c4_i32_12
  let c3_i32 : BitVec 32 := 3#32
  let v34 : BitVec 32 := Scalar.addi v33 c3_i32
  let v35 : BitVec 32 := Scalar.subi v2 v33
  let v36 : BitVec 32 := Scalar.subi v34 v35
  let c1_i32_126 : BitVec 32 := 1#32
  let v133 : BitVec 32 := Scalar.muli v36 c1_i32_126
  let v134 : BitVec 32 := Scalar.addi c0_i32_127 v133
  v134.toNat
def k0_dev11 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v37 : BitVec 32 := Scalar.addi v2 c4_i32_13
  let c8_i32_14 : BitVec 32 := 8#32
  let c0_i32_15 : BitVec 32 := 0#32
  let v38 : BitVec 1 := Scalar.cmpi .eq c8_i32_14 c0_i32_15
  let c1_i32_16 : BitVec 32 := 1#32
  let v39 : BitVec 32 := Scalar.select v38 c1_i32_16 c8_i32_14
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c1_i32_164 : BitVec 32 := 1#32
  let v161 : BitVec 32 := Scalar.muli v47 c1_i32_164
  let v162 : BitVec 32 := Scalar.addi c0_i32_165 v161
  v162.toNat
def k0_dev12 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_202 : BitVec 32 := 1#32
  let v189 : BitVec 32 := Scalar.muli v15 c1_i32_202
  let v190 : BitVec 32 := Scalar.addi c0_i32_203 v189
  v190.toNat
def k0_dev13 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v17 : BitVec 1 := Scalar.cmpi .sgt v2 c0_i32_6
  let v18 : BitVec 32 := Scalar.extui v17
  let c0_i32_7 : BitVec 32 := 0#32
  let v19 : BitVec 1 := Scalar.cmpi .slt v2 c0_i32_7
  let v20 : BitVec 32 := Scalar.extui v19
  let v21 : BitVec 32 := Scalar.subi v18 v20
  let c4_i32 : BitVec 32 := 4#32
  let c0_i32_8 : BitVec 32 := 0#32
  let v22 : BitVec 1 := Scalar.cmpi .sgt c4_i32 c0_i32_8
  let v23 : BitVec 32 := Scalar.extui v22
  let c0_i32_9 : BitVec 32 := 0#32
  let v24 : BitVec 1 := Scalar.cmpi .slt c4_i32 c0_i32_9
  let v25 : BitVec 32 := Scalar.extui v24
  let v26 : BitVec 32 := Scalar.subi v23 v25
  let v27 : BitVec 1 := Scalar.cmpi .ne v21 v26
  let v28 : BitVec 32 := Scalar.remsi v2 c4_i32
  let c0_i32_10 : BitVec 32 := 0#32
  let v29 : BitVec 1 := Scalar.cmpi .ne v28 c0_i32_10
  let v30 : BitVec 1 := Scalar.andi v27 v29
  let v16 : BitVec 32 := Scalar.divsi v2 c4_i32
  let c1_i32_11 : BitVec 32 := 1#32
  let v31 : BitVec 32 := Scalar.subi v16 c1_i32_11
  let v32 : BitVec 32 := Scalar.select v30 v31 v16
  let c4_i32_12 : BitVec 32 := 4#32
  let v33 : BitVec 32 := Scalar.muli v32 c4_i32_12
  let c3_i32 : BitVec 32 := 3#32
  let v34 : BitVec 32 := Scalar.addi v33 c3_i32
  let v35 : BitVec 32 := Scalar.subi v2 v33
  let v36 : BitVec 32 := Scalar.subi v34 v35
  let c1_i32_240 : BitVec 32 := 1#32
  let v217 : BitVec 32 := Scalar.muli v36 c1_i32_240
  let v218 : BitVec 32 := Scalar.addi c0_i32_241 v217
  v218.toNat
def k0_dev14 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v37 : BitVec 32 := Scalar.addi v2 c4_i32_13
  let c8_i32_14 : BitVec 32 := 8#32
  let c0_i32_15 : BitVec 32 := 0#32
  let v38 : BitVec 1 := Scalar.cmpi .eq c8_i32_14 c0_i32_15
  let c1_i32_16 : BitVec 32 := 1#32
  let v39 : BitVec 32 := Scalar.select v38 c1_i32_16 c8_i32_14
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c1_i32_278 : BitVec 32 := 1#32
  let v245 : BitVec 32 := Scalar.muli v47 c1_i32_278
  let v246 : BitVec 32 := Scalar.addi c0_i32_279 v245
  v246.toNat
def k0_dev15 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_316 : BitVec 32 := 1#32
  let v273 : BitVec 32 := Scalar.muli v15 c1_i32_316
  let v274 : BitVec 32 := Scalar.addi c0_i32_317 v273
  v274.toNat
def k0_dev16 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v37 : BitVec 32 := Scalar.addi v2 c4_i32_13
  let c8_i32_14 : BitVec 32 := 8#32
  let c0_i32_15 : BitVec 32 := 0#32
  let v38 : BitVec 1 := Scalar.cmpi .eq c8_i32_14 c0_i32_15
  let c1_i32_16 : BitVec 32 := 1#32
  let v39 : BitVec 32 := Scalar.select v38 c1_i32_16 c8_i32_14
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c1_i32_354 : BitVec 32 := 1#32
  let v301 : BitVec 32 := Scalar.muli v47 c1_i32_354
  let v302 : BitVec 32 := Scalar.addi c0_i32_355 v301
  v302.toNat
def k0_dev17 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_393 : BitVec 32 := 1#32
  let v329 : BitVec 32 := Scalar.muli v15 c1_i32_393
  let v330 : BitVec 32 := Scalar.addi c0_i32_394 v329
  v330.toNat
def k0_dev18 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v17 : BitVec 1 := Scalar.cmpi .sgt v2 c0_i32_6
  let v18 : BitVec 32 := Scalar.extui v17
  let c0_i32_7 : BitVec 32 := 0#32
  let v19 : BitVec 1 := Scalar.cmpi .slt v2 c0_i32_7
  let v20 : BitVec 32 := Scalar.extui v19
  let v21 : BitVec 32 := Scalar.subi v18 v20
  let c4_i32 : BitVec 32 := 4#32
  let c0_i32_8 : BitVec 32 := 0#32
  let v22 : BitVec 1 := Scalar.cmpi .sgt c4_i32 c0_i32_8
  let v23 : BitVec 32 := Scalar.extui v22
  let c0_i32_9 : BitVec 32 := 0#32
  let v24 : BitVec 1 := Scalar.cmpi .slt c4_i32 c0_i32_9
  let v25 : BitVec 32 := Scalar.extui v24
  let v26 : BitVec 32 := Scalar.subi v23 v25
  let v27 : BitVec 1 := Scalar.cmpi .ne v21 v26
  let v28 : BitVec 32 := Scalar.remsi v2 c4_i32
  let c0_i32_10 : BitVec 32 := 0#32
  let v29 : BitVec 1 := Scalar.cmpi .ne v28 c0_i32_10
  let v30 : BitVec 1 := Scalar.andi v27 v29
  let v16 : BitVec 32 := Scalar.divsi v2 c4_i32
  let c1_i32_11 : BitVec 32 := 1#32
  let v31 : BitVec 32 := Scalar.subi v16 c1_i32_11
  let v32 : BitVec 32 := Scalar.select v30 v31 v16
  let c4_i32_12 : BitVec 32 := 4#32
  let v33 : BitVec 32 := Scalar.muli v32 c4_i32_12
  let c3_i32 : BitVec 32 := 3#32
  let v34 : BitVec 32 := Scalar.addi v33 c3_i32
  let v35 : BitVec 32 := Scalar.subi v2 v33
  let v36 : BitVec 32 := Scalar.subi v34 v35
  let c1_i32_432 : BitVec 32 := 1#32
  let v357 : BitVec 32 := Scalar.muli v36 c1_i32_432
  let v358 : BitVec 32 := Scalar.addi c0_i32_433 v357
  v358.toNat
def k0_dev19 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v37 : BitVec 32 := Scalar.addi v2 c4_i32_13
  let c8_i32_14 : BitVec 32 := 8#32
  let c0_i32_15 : BitVec 32 := 0#32
  let v38 : BitVec 1 := Scalar.cmpi .eq c8_i32_14 c0_i32_15
  let c1_i32_16 : BitVec 32 := 1#32
  let v39 : BitVec 32 := Scalar.select v38 c1_i32_16 c8_i32_14
  let v40 : BitVec 32 := Scalar.remsi v37 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c1_i32_471 : BitVec 32 := 1#32
  let v385 : BitVec 32 := Scalar.muli v47 c1_i32_471
  let v386 : BitVec 32 := Scalar.addi c0_i32_472 v385
  v386.toNat
def k0_dev20 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c2_i32_5 : BitVec 32 := 2#32
  let c2_i32 : BitVec 32 := 2#32
  let c0_i32 : BitVec 32 := 0#32
  let v4 : BitVec 1 := Scalar.cmpi .eq c2_i32 c0_i32
  let c1_i32_1 : BitVec 32 := 1#32
  let v5 : BitVec 32 := Scalar.select v4 c1_i32_1 c2_i32
  let v6 : BitVec 32 := Scalar.remsi v2 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v14 : BitVec 32 := Scalar.muli c2_i32_5 v13
  let v15 : BitVec 32 := Scalar.subi v3 v14
  let c1_i32_510 : BitVec 32 := 1#32
  let v413 : BitVec 32 := Scalar.muli v15 c1_i32_510
  let v414 : BitVec 32 := Scalar.addi c0_i32_511 v413
  v414.toNat
def k0_dev21 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v17 : BitVec 1 := Scalar.cmpi .sgt v2 c0_i32_6
  let v18 : BitVec 32 := Scalar.extui v17
  let c0_i32_7 : BitVec 32 := 0#32
  let v19 : BitVec 1 := Scalar.cmpi .slt v2 c0_i32_7
  let v20 : BitVec 32 := Scalar.extui v19
  let v21 : BitVec 32 := Scalar.subi v18 v20
  let c4_i32 : BitVec 32 := 4#32
  let c0_i32_8 : BitVec 32 := 0#32
  let v22 : BitVec 1 := Scalar.cmpi .sgt c4_i32 c0_i32_8
  let v23 : BitVec 32 := Scalar.extui v22
  let c0_i32_9 : BitVec 32 := 0#32
  let v24 : BitVec 1 := Scalar.cmpi .slt c4_i32 c0_i32_9
  let v25 : BitVec 32 := Scalar.extui v24
  let v26 : BitVec 32 := Scalar.subi v23 v25
  let v27 : BitVec 1 := Scalar.cmpi .ne v21 v26
  let v28 : BitVec 32 := Scalar.remsi v2 c4_i32
  let c0_i32_10 : BitVec 32 := 0#32
  let v29 : BitVec 1 := Scalar.cmpi .ne v28 c0_i32_10
  let v30 : BitVec 1 := Scalar.andi v27 v29
  let v16 : BitVec 32 := Scalar.divsi v2 c4_i32
  let c1_i32_11 : BitVec 32 := 1#32
  let v31 : BitVec 32 := Scalar.subi v16 c1_i32_11
  let v32 : BitVec 32 := Scalar.select v30 v31 v16
  let c4_i32_12 : BitVec 32 := 4#32
  let v33 : BitVec 32 := Scalar.muli v32 c4_i32_12
  let c3_i32 : BitVec 32 := 3#32
  let v34 : BitVec 32 := Scalar.addi v33 c3_i32
  let v35 : BitVec 32 := Scalar.subi v2 v33
  let v36 : BitVec 32 := Scalar.subi v34 v35
  let c1_i32_549 : BitVec 32 := 1#32
  let v441 : BitVec 32 := Scalar.muli v36 c1_i32_549
  let v442 : BitVec 32 := Scalar.addi c0_i32_550 v441
  v442.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S8x512x256 : Shape := ⟨3, ![8, 512, 256]⟩
abbrev S_ : Shape := ⟨0, ![]⟩
abbrev S512x256 : Shape := ⟨2, ![512, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8x512x256, .f32⟩
  | .hbm, ⟨2, _⟩ => ⟨S_, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Steps.lean ====
/-
The kernel body as one uniform program. The printed body names the transfer of every row chunk and stage with its
own literals. Here a transfer is indexed by its chunk `k : Fin 6` and its stage `s : Fin 3`, the row ranges, slabs and
semaphores are functions of those two indices, and the body is a signal-and-wait prologue, a copy, six starts, and
eighteen receive-and-add steps.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Hand

open Cert.KernelIdeal Cert.KernelIdeal.Gen

open Idealize.ShloMosaic Idealize.ShloMosaic.TcCoe
open Idealize.SL.Sem

variable {F : FTy → Type} [FloatOps F]

/-! ## Row chunks, slabs and semaphores by index -/

/-- The number of rows of chunk `k`. -/
def rc (k : Fin 6) : Nat := match k with
  | 0 => 88 | 1 => 88 | 2 => 88 | 3 => 88 | 4 => 80 | 5 => 80

/-- The first row of chunk `k`. -/
def ro (k : Fin 6) : Nat := match k with
  | 0 => 0 | 1 => 88 | 2 => 176 | 3 => 264 | 4 => 352 | 5 => 432

/-- The shape of chunk `k`. -/
abbrev CSh (k : Fin 6) : Shape := ⟨2, ![rc k, 256]⟩
/-- The shape of chunk `k` with the stage axis in front. -/
abbrev TSh (k : Fin 6) : Shape := ⟨3, ![1, rc k, 256]⟩

/-- The rows of a chunk lie in the array. -/
theorem inbC (k : Fin 6) : ∀ a, (![ro k, 0] : Fin 2 → Nat) a + (CSh k).size a ≤ S512x256.size a := by
  revert k; decide
/-- The rows of a chunk in a slab lie in the landing buffer. -/
theorem inbT (k : Fin 6) (s : Fin 3) : ∀ a, (![s.val, ro k, 0] : Fin 3 → Nat) a + (TSh k).size a ≤ S3x512x256.size a := by
  revert k s; decide
/-- A semaphore's place lies in its array of semaphores. -/
theorem inbS (k : Fin 6) (s : Fin 3) : ∀ a, (![k.val, s.val] : Fin 2 → Nat) a + S1x1.size a ≤ S6x3.size a := by
  revert k s; decide
/-- Dropping the stage axis of a slab's chunk leaves the chunk's shape. -/
theorem sqT (k : Fin 6) : (TSh k).Squeezes (CSh k) := by revert k; decide
/-- A chunk is not empty. -/
theorem posC (k : Fin 6) : 0 < (CSh k).numel := by revert k; decide
/-- A slab's chunk is not empty. -/
theorem posT (k : Fin 6) : 0 < (TSh k).numel := by revert k; decide
/-- A slab's chunk recast without the stage axis has the chunk's shape. -/
theorem castT (k : Fin 6) : (TSh k).ShapeCasts (CSh k) := by revert k; decide
/-- A chunk recast to its own shape. -/
theorem castC (k : Fin 6) : (CSh k).ShapeCasts (CSh k) := by revert k; decide

/-- The rows of chunk `k`. -/
abbrev rectC (k : Fin 6) : Rect S512x256 := Rect.unit (s := S512x256) ![ro k, 0] (CSh k).size (inbC k)
/-- The rows of chunk `k` in the slab of stage `s`. -/
abbrev rectT (k : Fin 6) (s : Fin 3) : Rect S3x512x256 := Rect.unit (s := S3x512x256) ![s.val, ro k, 0] (TSh k).size (inbT k s)

/-- The operand's staging buffer. -/
abbrev xM : Memref sig .tc .vmem S512x256 .f32 := Memref.whole cc0_stg0_0
/-- The result's staging buffer. -/
abbrev oM : Memref sig .tc .vmem S512x256 .f32 := Memref.whole cc0_stg1_0
/-- The accumulator. -/
abbrev aM : Memref sig .tc .vmem S512x256 .f32 := Memref.whole cc0_scratch0
/-- The landing buffer, a slab for each stage. -/
abbrev tM : Memref sig .tc .vmem S3x512x256 .f32 := Memref.whole cc0_scratch1

/-- Chunk `k` of the accumulator. -/
abbrev accM (k : Fin 6) : Memref sig .tc .vmem (CSh k) .f32 := aM.slice (rectC k) (fun _ => rfl)
/-- Chunk `k` of the landing slab of stage `s`. -/
abbrev slabM (k : Fin 6) (s : Fin 3) : Memref sig .tc .vmem (CSh k) .f32 := (tM.slice (rectT k s) (fun _ => rfl)).squeeze (CSh k) (sqT k)

/-- The semaphore counting what the transfer of chunk `k` at stage `s` has read on the sending side. -/
abbrev sndS (k : Fin 6) (s : Fin 3) : DmaSem sig :=
  ((cc0_scratch2.slice (Rect.unit (s := S6x3) ![k.val, s.val] S1x1.size (inbS k s))).squeeze S_ squeezes_S1x1_S_).sem
/-- The semaphore counting what has landed on the receiving side. -/
abbrev rcvS (k : Fin 6) (s : Fin 3) : DmaSem sig :=
  ((cc0_scratch3.slice (Rect.unit (s := S6x3) ![k.val, s.val] S1x1.size (inbS k s))).squeeze S_ squeezes_S1x1_S_).sem
/-- The runtime's barrier semaphore of collective id 0. -/
abbrev barS : Sem sig := (SemArray.scalar (sig.barrier 0 rfl) : Sems sig S_).sem

/-! ## The payloads by index -/

/-- The sum a chunk is overwritten by: what it held plus what landed. -/
def addPay (k : Fin 6) (v : Vec F (CSh k) .f32) (w : Vec F (TSh k) .f32) : FVec F (CSh k) .f32 :=
  shapeCast (CSh k) (addf v (shapeCast (CSh k) w (castT k))) (castC k)

/-- The result of a chunk from its sum. -/
def actPay (k : Fin 6) (v : Vec F (CSh k) .f32) : FVec F (CSh k) .f32 :=
  let r : FVec F (CSh k) .f32 := maximumf v (broadcast (CSh k) (Scalar.ofBits .f32 0x00000000#32))
  addf (mulf (mulf (tanh v) v) v) (mulf (mulf r r) r)

/-! ## The steps -/

/-- A program of the kernel's core. -/
abbrev P (F : FTy → Type) [FloatOps F] (α : Type) : Type 1 := Prog (TpuEff nD τ sig (Elt F) Λ₀ .tc) α

/-- Start the transfer of chunk `k` at stage `s` to device `d`. -/
def startP (k : Fin 6) (s : Fin 3) (d : Dev nD) : P F PUnit :=
  Prog.lift (.enqueueDma (accM k) (.remote (Dev.tc d) (slabM k s) (.dma (sndS k s))) (.dma (rcvS k s))
    (View.wordExact_bits rfl) ((View.wordExact_bits rfl).reshape _ _) ⟨⟨rfl, Or.inl rfl⟩, trivial⟩)

/-- Wait for that transfer to have left and for the partner's to have landed, then add the landed slab to the chunk. -/
def recvP (k : Fin 6) (s : Fin 3) : P F PUnit := do
  Prog.lift (.waitDma2 (sndS k s) (slabM k s) (accM k) ((View.wordExact_bits rfl).reshape _ _) (View.wordExact_bits rfl))
  Prog.lift (.waitDma2 (rcvS k s) (accM k) (slabM k s) (View.wordExact_bits rfl) ((View.wordExact_bits rfl).reshape _ _))
  let v : Vec F (CSh k) .f32 ← Prog.lift (.load aM (rectC k).toLoadRect (View.loadsAt_vmem (posC k)))
  let w : Vec F (TSh k) .f32 ← Prog.lift (.load tM (rectT k s).toLoadRect (View.loadsAt_vmem (posT k)))
  let _ : Vec F (CSh k) .f32 ← Prog.lift (.load aM (rectC k).toLoadRect (View.loadsAt_vmem (posC k)))
  Prog.lift (.store aM (rectC k) (addPay k v w) Finset.univ (View.stores_vmem_bits_univ (posC k) rfl) (.inl rfl))

/-- Write the result of chunk `k`. -/
def outP (k : Fin 6) : P F PUnit := do
  let v : Vec F (CSh k) .f32 ← Prog.lift (.load aM (rectC k).toLoadRect (View.loadsAt_vmem (posC k)))
  let _ : Vec F (CSh k) .f32 ← Prog.lift (.load oM (rectC k).toLoadRect (View.loadsAt_vmem (posC k)))
  Prog.lift (.store oM (rectC k) (actPay k v) Finset.univ (View.stores_vmem_bits_univ (posC k) rfl) (.inl rfl))

/-- Signal the barrier of the three devices `b` and wait for three signals. -/
def barP (b : Fin 3 → Dev nD) : P F PUnit := do
  semSignalWord (b 0) barS 1#32
  semSignalWord (b 1) barS 1#32
  semSignalWord (b 2) barS 1#32
  semWaitWord barS 3#32

/-- Copy the operand into the accumulator. -/
def copyP : P F PUnit := do
  let v : Vec F S512x256 .f32 ← Prog.lift (.load xM (Rect.unit (s := S512x256) ![0, 0] S512x256.size inb_S512x256_S512x256_0_0).toLoadRect (View.loadsAt_vmem h_S512x256))
  let _ : Vec F S512x256 .f32 ← Prog.lift (.load aM (Rect.unit (s := S512x256) ![0, 0] S512x256.size inb_S512x256_S512x256_0_0).toLoadRect (View.loadsAt_vmem h_S512x256))
  Prog.lift (.store aM (Rect.unit (s := S512x256) ![0, 0] S512x256.size inb_S512x256_S512x256_0_0) (k0_pay2 v) Finset.univ (View.stores_vmem_bits_univ h_S512x256 rfl) (.inl rfl))

/-- A receive-and-add step followed by the start of the chunk's next transfer. -/
def midP (k : Fin 6) (s s' : Fin 3) (d : Dev nD) : P F PUnit := do
  recvP k s
  startP k s' d

/-- A chunk's last receive-and-add step followed by its result. -/
def lastP (k : Fin 6) : P F PUnit := do
  recvP k 2
  outP k

/-- The part of the body after the copy, its partners given by `t`. -/
def restP (t : Fin 6 → Fin 3 → Dev nD) : P F PUnit := do
  startP 0 0 (t 0 0)
  startP 1 0 (t 1 0)
  startP 2 0 (t 2 0)
  startP 3 0 (t 3 0)
  startP 4 0 (t 4 0)
  startP 5 0 (t 5 0)
  midP 0 0 1 (t 0 1)
  midP 1 0 1 (t 1 1)
  midP 2 0 1 (t 2 1)
  midP 3 0 1 (t 3 1)
  midP 4 0 1 (t 4 1)
  midP 5 0 1 (t 5 1)
  midP 0 1 2 (t 0 2)
  midP 1 1 2 (t 1 2)
  midP 2 1 2 (t 2 2)
  midP 3 1 2 (t 3 2)
  midP 4 1 2 (t 4 2)
  midP 5 1 2 (t 5 2)
  lastP 0
  lastP 1
  lastP 2
  lastP 3
  lastP 4
  lastP 5

/-- The whole body, its partners given by `b` (barrier) and `t` (transfers). -/
def bodyP (b : Fin 3 → Dev nD) (t : Fin 6 → Fin 3 → Dev nD) : P F PUnit := do
  barP b
  copyP
  restP t

/-! ## The partners the body computes -/

/-- The devices the body signals. -/
def devB (d : Dev nD) (a : Fin 3) : Dev nD := match a with
  | 0 => ⟨k0_dev1 d, k0_dev1_lt d⟩ | 1 => ⟨k0_dev2 d, k0_dev2_lt d⟩ | 2 => ⟨k0_dev3 d, k0_dev3_lt d⟩

/-- The devices the body sends to. -/
def devT (d : Dev nD) (k : Fin 6) (s : Fin 3) : Dev nD := match s, k with
  | 0, 0 => ⟨k0_dev4 d, k0_dev4_lt d⟩ | 0, 1 => ⟨k0_dev5 d, k0_dev5_lt d⟩ | 0, 2 => ⟨k0_dev6 d, k0_dev6_lt d⟩
  | 0, 3 => ⟨k0_dev7 d, k0_dev7_lt d⟩ | 0, 4 => ⟨k0_dev8 d, k0_dev8_lt d⟩ | 0, 5 => ⟨k0_dev9 d, k0_dev9_lt d⟩
  | 1, 0 => ⟨k0_dev10 d, k0_dev10_lt d⟩ | 1, 1 => ⟨k0_dev11 d, k0_dev11_lt d⟩ | 1, 2 => ⟨k0_dev12 d, k0_dev12_lt d⟩
  | 1, 3 => ⟨k0_dev13 d, k0_dev13_lt d⟩ | 1, 4 => ⟨k0_dev14 d, k0_dev14_lt d⟩ | 1, 5 => ⟨k0_dev15 d, k0_dev15_lt d⟩
  | 2, 0 => ⟨k0_dev16 d, k0_dev16_lt d⟩ | 2, 1 => ⟨k0_dev17 d, k0_dev17_lt d⟩ | 2, 2 => ⟨k0_dev18 d, k0_dev18_lt d⟩
  | 2, 3 => ⟨k0_dev19 d, k0_dev19_lt d⟩ | 2, 4 => ⟨k0_dev20 d, k0_dev20_lt d⟩ | 2, 5 => ⟨k0_dev21 d, k0_dev21_lt d⟩

set_option maxRecDepth 65536 in
/-- The printed body is the uniform program. -/
theorem body_eq :
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 : P F PUnit)
      = Prog.op .deviceId fun d => bodyP (devB d) (devT d) := by
  rfl

end Cert.KernelIdeal.Hand

end
-- ==== Proof.Sched.lean ====
/-
The exchange as data: who is whose partner, what each buffer holds after each stage, and the schedule of the
semaphores. Every device has one barrier cell with three units, one from each partner, and a send and a receive cell
per chunk and stage, each with the credit of one transfer.
-/
module

public import proofs.«01_k».proof.Proof.Steps

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, with three duties per round -/

/-- The exchange's resource algebra: rounds over all semaphore cells, duties numbered by three. -/
abbrev UB : Type := URounds (GSem nD τ sig) (Fin 3)
/-- The pipeline library's resource algebra and the exchange's. -/
abbrev UU : Type := UR sig nD τ × UB

local notation "𝕄" => MT nD τ sig Unit (Elt F) ℕ UU ℕ

/-- The pipeline library's part. -/
abbrev EP : Emb (UR sig nD τ) (MT nD τ sig Unit (Elt F) ℕ UU ℕ) := embL
/-- The exchange's part. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Partners -/

/-- The partner of `d` across axis `a` of the two-by-two-by-two cube. -/
def peer (a : Fin 3) (d : Dev nD) : Dev nD := match a with
  | 0 => match d with | 0 => 1 | 1 => 0 | 2 => 3 | 3 => 2 | 4 => 5 | 5 => 4 | 6 => 7 | 7 => 6
  | 1 => match d with | 0 => 3 | 1 => 2 | 2 => 1 | 3 => 0 | 4 => 7 | 5 => 6 | 6 => 5 | 7 => 4
  | 2 => match d with | 0 => 4 | 1 => 5 | 2 => 6 | 3 => 7 | 4 => 0 | 5 => 1 | 6 => 2 | 7 => 3

/-- Being partners across an axis is mutual. -/
theorem peer_peer (a : Fin 3) (d : Dev nD) : peer a (peer a d) = d := by revert a d; decide

/-- The partners across one axis, as a permutation of the devices. -/
def peerEquiv (a : Fin 3) : Dev nD ≃ Dev nD := ⟨peer a, peer a, peer_peer a, peer_peer a⟩

/-- The axis chunk `k` crosses at stage `s`. -/
def ax (k : Fin 6) (s : Fin 3) : Fin 3 := s + ⟨k.val % 3, Nat.mod_lt _ (Nat.succ_pos _)⟩

set_option maxRecDepth 65536 in
/-- The devices the body signals are the three partners. -/
theorem devB_eq (d : Dev nD) : devB d = fun a => peer a d := by
  revert d; decide +kernel

set_option maxRecDepth 65536 in
/-- The device the body sends chunk `k` to at stage `s` is the partner across that stage's axis. -/
theorem devT_eq (d : Dev nD) : devT d = fun k s => peer (ax k s) d := by
  revert d; decide +kernel

/-! ## The semaphore cells -/

/-- A transfer: its chunk and its stage. -/
abbrev XIx : Type := Fin 6 × Fin 3
/-- A device's own scoped semaphores: `false` a send cell, `true` a receive cell. -/
abbrev OIx : Type := Bool × XIx
/-- A device's cells: the barrier (`none`) and its own. -/
abbrev CIx : Type := Option OIx

/-- The semaphore of one of a device's own cells. -/
abbrev osem : OIx → SemLoc sig := fun i => if i.1 then .dma (rcvS i.2.1 i.2.2) else .dma (sndS i.2.1 i.2.2)
/-- The semaphore of a cell. -/
abbrev csem : CIx → SemLoc sig := fun i => match i with | none => .reg barS | some i => osem i

/-- The send and receive semaphores are all different. -/
theorem osem_injective : Function.Injective osem := by decide +kernel
/-- So they are with the barrier's. -/
theorem csem_injective : Function.Injective csem := by
  intro a b h
  match a, b with
  | none, none => rfl
  | none, some ⟨b, x⟩ => cases b <;> cases h
  | some ⟨a, x⟩, none => cases a <;> cases h
  | some a, some b => exact congrArg some (osem_injective h)

/-- The cell a semaphore is, if it is one of the exchange's. -/
def dec (sm : SemLoc sig) : Option CIx := if h : ∃ i, csem i = sm then some h.choose else none

/-- A cell's semaphore is read back as the cell. -/
theorem dec_csem (i : CIx) : dec (csem i) = some i := by
  have h : ∃ j, csem j = csem i := ⟨i, rfl⟩
  unfold dec; rw [dif_pos h]; exact congrArg some (csem_injective h.choose_spec)
/-- The barrier semaphore is the barrier cell. -/
theorem dec_bar : dec (.reg barS) = some none := dec_csem none
/-- A send semaphore is its send cell. -/
theorem dec_snd (k : Fin 6) (s : Fin 3) : dec (.dma (sndS k s)) = some (some (false, k, s)) := dec_csem (some (false, k, s))
/-- A receive semaphore is its receive cell. -/
theorem dec_rcv (k : Fin 6) (s : Fin 3) : dec (.dma (rcvS k s)) = some (some (true, k, s)) := dec_csem (some (true, k, s))

/-- The barrier cell of device `c`. -/
abbrev barCell (c : Dev nD) : GSem nD τ sig := ((c : Thread nD τ), .reg barS)
/-- The send cell of chunk `k` at stage `s` on device `c`. -/
abbrev sndCell (c : Dev nD) (k : Fin 6) (s : Fin 3) : GSem nD τ sig := ((c : Thread nD τ), .dma (sndS k s))
/-- The receive cell of chunk `k` at stage `s` on device `c`. -/
abbrev rcvCell (c : Dev nD) (k : Fin 6) (s : Fin 3) : GSem nD τ sig := ((c : Thread nD τ), .dma (rcvS k s))
/-- A cell by its device and index. -/
abbrev kcell (ci : Dev nD × CIx) : GSem nD τ sig := ((ci.1 : Thread nD τ), csem ci.2)

/-- The credit of a transfer of chunk `k`. -/
def N (k : Fin 6) : ℕ := (accM k).view.dmaCredit
/-- A transfer has positive credit. -/
theorem N_pos (k : Fin 6) : 0 < N k := View.dmaCredit_pos _ (posC k)
/-- Read from the accumulator, a transfer of chunk `k` has the chunk's credit. -/
theorem N_acc (k : Fin 6) : (accM k).view.dmaCredit = N k := rfl
/-- Written to a slab, it has the same credit. -/
theorem N_slab (k : Fin 6) (s : Fin 3) : (slabM k s).view.dmaCredit = N k := rfl

/-! ## Contents -/

/-- The chunk row `r` belongs to. -/
def chunkOf (r : ℕ) : Fin 6 := if r < 88 then 0 else if r < 176 then 1 else if r < 264 then 2 else if r < 352 then 3 else if r < 432 then 4 else 5

/-- A row of chunk `k` belongs to chunk `k`. -/
theorem chunkOf_eq (k : Fin 6) (r : ℕ) (h1 : ro k ≤ r) (h2 : r < ro k + rc k) : chunkOf r = k := by
  unfold chunkOf
  match k with
  | 0 | 1 | 2 | 3 | 4 | 5 => simp only [ro, rc] at h1 h2; split_ifs <;> first | rfl | omega

/-- The accumulator's contents. -/
abbrev CA (F : FTy → Type) : Type := S512x256.Idx → Elt F .f32
/-- The landing buffer's contents. -/
abbrev CT (F : FTy → Type) : Type := S3x512x256.Idx → Elt F .f32

/-- The operand's block as staged on device `c`. -/
def xstg (c : Dev nD) : CA F := (win0_0.blk (0 : Fin 1)).view.read (Elt F) ((s₀ m ρ).mem ((c : Thread nD τ).loc main_arg0))

/-- The accumulator of device `c` after `s` stages: each stage adds, on every chunk, what the chunk's partner of that
    stage held before it. -/
def acc : ℕ → Dev nD → CA F
  | 0, c => xstg m ρ c
  | s + 1, c => fun i => FloatOps.addf (acc s c i) (acc s (peer (ax (chunkOf (i 0).val) (Fin.ofNat 3 s)) c) i)

/-- The last two coordinates of an index of the landing buffer. -/
def tailIx (i : S3x512x256.Idx) : S512x256.Idx := fun a => match a with | ⟨0, _⟩ => i 1 | ⟨1, _⟩ => i 2

/-- The landing buffer of device `c` once everything has landed: slab `s` holds what the partners held before stage `s`. -/
def landed (c : Dev nD) : CT F := fun i => acc m ρ (i 0).val (peer (ax (chunkOf (i 1).val) (i 0)) c) (tailIx i)

/-- The activation of one sum. -/
def act1 (v : Elt F .f32) : Elt F .f32 :=
  let r : F .f32 := FloatOps.maximumf v (Scalar.ofBits .f32 0x00000000#32)
  FloatOps.addf (FloatOps.mulf (FloatOps.mulf (FloatOps.tanh v) v) v) (FloatOps.mulf (FloatOps.mulf r r) r)

/-- The result of device `c`. -/
def outAt (c : Dev nD) : CA F := fun i => act1 (acc m ρ 3 c i)

/-! ## Pieces of the buffers -/

/-- Chunk `k` of the accumulator of device `c`, with contents `f` there. -/
def accPts (c : Dev nD) (k : Fin 6) (f : CA F) : sProp 𝕄 := ((c : Thread nD τ).loc cc0_scratch0) ↦[(rectC k).set]{fullShare} f
/-- The slab of chunk `k` at stage `s` of device `c`, with contents `f` there. -/
def slabPts (c : Dev nD) (k : Fin 6) (s : Fin 3) (f : CT F) : sProp 𝕄 := ((c : Thread nD τ).loc cc0_scratch1) ↦[(rectT k s).set]{fullShare} f
/-- Chunk `k` of the result's buffer of device `c`, with contents `f` there. -/
def outPts (c : Dev nD) (k : Fin 6) (f : CA F) : sProp 𝕄 := ((c : Thread nD τ).loc cc0_stg1_0) ↦[(rectC k).set]{fullShare} f

omit [FloatOps F] in
/-- A chunk of the accumulator may be kept in an invariant. -/
instance accPts_storable (c : Dev nD) (k f) : BI.Storable (upEmb : UEmb _ 𝕄) (accPts (F := F) c k f) := by unfold accPts; infer_instance
omit [FloatOps F] in
/-- A landing slab may be kept in an invariant. -/
instance slabPts_storable (c : Dev nD) (k s f) : BI.Storable (upEmb : UEmb _ 𝕄) (slabPts (F := F) c k s f) := by unfold slabPts; infer_instance

/-! ## The schedule -/

/-- A landing slab of device `c`, its contents arbitrary. -/
def slabAny (c : Dev nD) (ks : XIx) : sProp 𝕄 := iprop(∃ f, slabPts c ks.1 ks.2 f)
/-- What the partner across axis `a` hands device `c` at the barrier: the partner's landing slabs of that axis. -/
def barPay (c : Dev nD) (a : Fin 3) : sProp 𝕄 :=
  bigSep (Finset.univ.filter fun ks : XIx => ax ks.1 ks.2 = a) fun ks => slabAny (peer a c) ks

omit [FloatOps F] in
/-- So may a slab with arbitrary contents. -/
instance slabAny_storable (c : Dev nD) (ks) : BI.Storable (upEmb : UEmb _ 𝕄) (slabAny (F := F) c ks) := by unfold slabAny; infer_instance
omit [FloatOps F] in
/-- So may what a partner hands over at the barrier. -/
instance barPay_storable (c : Dev nD) (a) : BI.Storable (upEmb : UEmb _ 𝕄) (barPay (F := F) c a) := by unfold barPay; infer_instance

/-- One round per cell. The barrier has three duties of one unit each, a send or receive cell one duty of the chunk's
    credit. A send cell hands back the chunk read, a receive cell the slab landed. -/
def xRd : Rounds.Schedule (GSem nD τ sig) (Fin 3) 𝕄 where
  duties g r := if r = 0 ∧ g.1.2 = .tc then (match dec g.2 with | none => ∅ | some none => Finset.univ | some (some _) => {0}) else ∅
  unitless _ := False
  amount g _ _ := match dec g.2 with | some (some i) => N i.2.1 | _ => 1
  payload g _ d := match dec g.2 with
    | none => iprop(emp)
    | some none => barPay g.1.1 d
    | some (some (false, k, s)) => accPts g.1.1 k (acc m ρ s.val g.1.1)
    | some (some (true, k, s)) => slabPts g.1.1 k s (landed m ρ g.1.1)
  amount_pos g _ _ _ := by
    split
    · exact N_pos _
    · exact Nat.one_pos

/-- Every payload of the schedule may be kept in an invariant. -/
instance xRd_payload_storable (g : GSem nD τ sig) (r : ℕ) (d : Fin 3) : BI.Storable (upEmb : UEmb _ 𝕄) ((xRd (F := F) m ρ).payload g r d) := by
  dsimp only [xRd]
  split <;> infer_instance

section Sched
variable (c : Dev nD) (k : Fin 6) (s : Fin 3)

/-- The barrier has three duties. -/
theorem duties_bar : (xRd (F := F) m ρ).duties (barCell c) 0 = Finset.univ := by dsimp only [xRd]; rw [if_pos ⟨rfl, rfl⟩, dec_bar]
/-- A send cell has one duty. -/
theorem duties_snd : (xRd (F := F) m ρ).duties (sndCell c k s) 0 = {0} := by dsimp only [xRd]; rw [if_pos ⟨rfl, rfl⟩, dec_snd]
/-- A receive cell has one duty. -/
theorem duties_rcv : (xRd (F := F) m ρ).duties (rcvCell c k s) 0 = {0} := by dsimp only [xRd]; rw [if_pos ⟨rfl, rfl⟩, dec_rcv]
/-- No cell has a duty after its first round. -/
theorem duties_later (g : GSem nD τ sig) : ∀ r, 1 ≤ r → (xRd (F := F) m ρ).duties g r = ∅ :=
  fun r hr => by dsimp only [xRd]; rw [if_neg fun h => by omega]

/-- A barrier duty is one unit. -/
theorem amount_bar (d : Fin 3) : (xRd (F := F) m ρ).amount (barCell c) 0 d = 1 := by dsimp only [xRd]; rw [dec_bar]
/-- A send cell's duty is the chunk's credit. -/
theorem amount_snd (d : Fin 3) : (xRd (F := F) m ρ).amount (sndCell c k s) 0 d = N k := by dsimp only [xRd]; rw [dec_snd]
/-- A receive cell's duty is the chunk's credit. -/
theorem amount_rcv (d : Fin 3) : (xRd (F := F) m ρ).amount (rcvCell c k s) 0 d = N k := by dsimp only [xRd]; rw [dec_rcv]

/-- The barrier expects three units. -/
theorem expect_bar : (xRd (F := F) m ρ).expect (barCell c) 0 = 3 := by
  unfold Schedule.expect Schedule.amountOf
  rw [duties_bar, Finset.sum_congr rfl fun d _ => amount_bar m ρ c d]; rfl
/-- A send cell expects the chunk's credit. -/
theorem expect_snd : (xRd (F := F) m ρ).expect (sndCell c k s) 0 = N k := by
  unfold Schedule.expect Schedule.amountOf; rw [duties_snd, Finset.sum_singleton, amount_snd]
/-- A receive cell expects the chunk's credit. -/
theorem expect_rcv : (xRd (F := F) m ρ).expect (rcvCell c k s) 0 = N k := by
  unfold Schedule.expect Schedule.amountOf; rw [duties_rcv, Finset.sum_singleton, amount_rcv]

/-- A barrier unit carries the landing slabs of the partner across its axis. -/
theorem payload_bar (d : Fin 3) : (xRd (F := F) m ρ).payload (barCell c) 0 d = barPay c d := by dsimp only [xRd]; rw [dec_bar]
/-- A send cell's credit hands back the chunk that was read, unchanged. -/
theorem payload_snd (d : Fin 3) : (xRd (F := F) m ρ).payload (sndCell c k s) 0 d = accPts c k (acc m ρ s.val c) := by dsimp only [xRd]; rw [dec_snd]
/-- A receive cell's credit carries the slab, with what was sent. -/
theorem payload_rcv (d : Fin 3) : (xRd (F := F) m ρ).payload (rcvCell c k s) 0 d = slabPts c k s (landed m ρ c) := by dsimp only [xRd]; rw [dec_rcv]

/-- The wait at the barrier brings the slabs of all three partners. -/
theorem rest_bar : bigSep ((xRd (F := F) m ρ).duties (barCell c) 0 \ ∅) (fun d => (xRd (F := F) m ρ).payload (barCell c) 0 d)
    = bigSep Finset.univ fun a => barPay c a := by
  rw [Finset.sdiff_empty, duties_bar]; exact bigSep_congr fun d _ => payload_bar m ρ c d
/-- The wait for a departure brings the chunk back. -/
theorem rest_snd : bigSep ((xRd (F := F) m ρ).duties (sndCell c k s) 0 \ ∅) (fun d => (xRd (F := F) m ρ).payload (sndCell c k s) 0 d)
    = accPts c k (acc m ρ s.val c) := by
  rw [Finset.sdiff_empty, duties_snd, bigSep_singleton, payload_snd]
/-- The wait for an arrival brings the slab. -/
theorem rest_rcv : bigSep ((xRd (F := F) m ρ).duties (rcvCell c k s) 0 \ ∅) (fun d => (xRd (F := F) m ρ).payload (rcvCell c k s) 0 d)
    = slabPts c k s (landed m ρ c) := by
  rw [Finset.sdiff_empty, duties_rcv, bigSep_singleton, payload_rcv]

end Sched

/-! ## What a device owes, and the levels -/

/-- The place of a transfer in the order a device starts them. -/
def ord (ks : XIx) : ℕ := 6 * ks.2.val + ks.1.val

/-- What device `c` still owes before its start number `n`: the credit of every transfer from there on. -/
def rem (n : ℕ) (c : Dev nD) : CellTallies nD τ sig Unit :=
  ∑ ks ∈ Finset.univ.filter (fun ks : XIx => n ≤ ord ks), tallyAt (rcvCell (peer (ax ks.1 ks.2) c) ks.1 ks.2) () (N ks.1)

/-- Different transfers start at different places in the order. -/
theorem ord_inj {a b : XIx} (h : ord a = ord b) : a = b := by
  obtain ⟨a1, a2⟩ := a; obtain ⟨b1, b2⟩ := b
  unfold ord at h
  have := a1.isLt; have := b1.isLt
  exact Prod.ext (Fin.ext (by simp only at h ⊢; omega)) (Fin.ext (by simp only at h ⊢; omega))

/-- A start discharges the credit of its transfer. -/
theorem rem_step (c : Dev nD) (ks : XIx) :
    rem (ord ks) c = rem (ord ks + 1) c + tallyAt (rcvCell (peer (ax ks.1 ks.2) c) ks.1 ks.2) () (N ks.1) := by
  unfold rem
  have h : (Finset.univ.filter fun x : XIx => ord ks ≤ ord x) = insert ks (Finset.univ.filter fun x : XIx => ord ks + 1 ≤ ord x) := by
    ext x
    simp only [Finset.mem_filter, Finset.mem_univ, true_and, Finset.mem_insert]
    constructor
    · intro hx; rcases Nat.eq_or_lt_of_le hx with he | hl
      · exact Or.inl (ord_inj he).symm
      · exact Or.inr hl
    · rintro (rfl | hx)
      · exact Nat.le_refl _
      · omega
  rw [h, Finset.sum_insert (by simp), add_comm]

/-- After the last start nothing is owed. -/
theorem rem_end (n : ℕ) (hn : 18 ≤ n) (c : Dev nD) : rem n c = 0 := by
  unfold rem
  refine Finset.sum_eq_zero fun ks hks => ?_
  have h := (Finset.mem_filter.mp hks).2
  have h1 := ks.1.isLt; have h2 := ks.2.isLt
  unfold ord at h; omega

/-- What device `c` owes after two signals: a unit to its third partner's barrier, and its transfers. -/
def O₁ (c : Dev nD) : CellTallies nD τ sig Unit := rem 0 c + tallyAt (barCell (peer 2 c)) () 1
/-- What device `c` owes after one signal. -/
def O₂ (c : Dev nD) : CellTallies nD τ sig Unit := O₁ c + tallyAt (barCell (peer 1 c)) () 1
/-- What device `c` owes at launch: a unit to each partner's barrier and the credit of its eighteen transfers. -/
def O₀ (c : Dev nD) : CellTallies nD τ sig Unit := O₂ c + tallyAt (barCell (peer 0 c)) () 1

/-- Every core cell has one level, no other cell has one. -/
def L (g : GSem nD τ sig) : Finset Unit := if g.1.2 = .tc then {()} else ∅
/-- Barrier cells at 1, receive cells of stage `s` at `2 + s`, everything else at 0. -/
def lv (g : GSem nD τ sig) (_ : Unit) : ℕ := match dec g.2 with
  | some none => 1 | some (some (true, _, s)) => 2 + s.val | _ => 0

/-- A cell of no core has no level. -/
theorem L_of_ne (g : GSem nD τ sig) (h : g.1.2 ≠ .tc) : L g = ∅ := if_neg h
/-- A core cell has its one level. -/
theorem L_tc (c : Dev nD) (sm : SemLoc sig) : L ((c : Thread nD τ), sm) = {()} := if_pos rfl
/-- The level of a barrier cell is 1. -/
theorem lv_bar (c : Dev nD) : lv (barCell c) () = 1 := by unfold lv; rw [dec_bar]
/-- The level of a send cell is 0. -/
theorem lv_snd (c : Dev nD) (k s) : lv (sndCell c k s) () = 0 := by unfold lv; rw [dec_snd]
/-- The level of a receive cell of stage `s` is `2 + s`. -/
theorem lv_rcv (c : Dev nD) (k s) : lv (rcvCell c k s) () = 2 + s.val := by unfold lv; rw [dec_rcv]

/-- A cell owed from start `n` on is a receive cell of a transfer from there on. -/
theorem rem_pos {n : ℕ} {c : Dev nD} {g : GSem nD τ sig} {u : Unit} (h : 0 < rem n c g u) :
    ∃ ks : XIx, n ≤ ord ks ∧ g = rcvCell (peer (ax ks.1 ks.2) c) ks.1 ks.2 := by
  by_contra hn
  refine absurd h (Nat.not_lt.mpr (Nat.le_of_eq ?_))
  unfold rem
  rw [Finset.sum_apply, Finsupp.finset_sum_apply]
  refine Finset.sum_eq_zero fun ks hks => ?_
  rw [tallyAt_apply, if_neg]
  exact fun h' => hn ⟨ks, (Finset.mem_filter.mp hks).2, h'.1⟩

/-- A cell owed at launch is a receive cell of a transfer or a partner's barrier cell. -/
theorem O₀_pos {c : Dev nD} {g : GSem nD τ sig} {u : Unit} (h : 0 < O₀ c g u) :
    (∃ ks : XIx, g = rcvCell (peer (ax ks.1 ks.2) c) ks.1 ks.2) ∨ ∃ a, g = barCell (peer a c) := by
  unfold O₀ O₂ O₁ at h
  simp only [Pi.add_apply, Finsupp.add_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨ks, _, hg⟩ := rem_pos (n := 0) (c := c) (g := g) (u := u) (by omega)
  exact hn.1 ks hg

/-- Every cell owed at launch has a level of at least 1. -/
theorem O₀_lv {c : Dev nD} {g : GSem nD τ sig} {u : Unit} (h : 0 < O₀ c g u) : 1 ≤ lv g u ∧ u ∈ L g := by
  rcases O₀_pos h with ⟨ks, rfl⟩ | ⟨a, rfl⟩
  · exact ⟨by rw [show u = () from rfl, lv_rcv]; omega, by rw [L_tc]; exact Finset.mem_singleton_self _⟩
  · exact ⟨by rw [show u = () from rfl, lv_bar], by rw [L_tc]; exact Finset.mem_singleton_self _⟩

/-- A staging semaphore is waited for below everything owed. -/
theorem mayWait_stage (c : Dev nD) (q : DmaSem sig) (hq : ∀ i : OIx, osem i ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => (O₀_lv hg).2)
      (fun p hp => by
        rw [Finset.mem_singleton.mp hp]; unfold lv dec
        rw [dif_neg (by rintro ⟨i, h⟩; cases i with | none => exact nomatch h | some i => exact hq i h)])
      (fun g u hg => (O₀_lv hg).1)
  · rw [MayWait_zero]; iintro -; iempintro

/-- A wait below everything owed from start `n` on: the barrier's, or one of a transfer of an earlier stage. -/
theorem mayWait_rem (c : Dev nD) (sm : SemLoc sig) (n b : ℕ) (h : lv ((c : Thread nD τ), sm) () ≤ b) (hb : ∀ ks : XIx, n ≤ ord ks → b < 2 + ks.2.val) :
    (levAts L lv : sProp 𝕄) ⊢ MayWait (c : Thread nD τ) sm () (rem n c) :=
  MayOwe.of_cut (L := L) (lev := lv) b (fun p hp => by rw [Finset.mem_singleton.mp hp, L_tc]; exact Finset.mem_singleton_self _)
    (fun g u hg => by obtain ⟨ks, _, rfl⟩ := rem_pos hg; rw [L_tc]; exact Finset.mem_singleton_self _)
    (fun p hp => by rw [Finset.mem_singleton.mp hp]; exact h)
    (fun g u hg => by obtain ⟨ks, hn, rfl⟩ := rem_pos hg; rw [show u = () from rfl, lv_rcv]; exact hb ks hn)

end Cert.KernelIdeal.Hand

end
-- ==== Proof.Pieces.lean ====
/-
What the reads and writes of one row chunk do to the contents of the buffers, and how the chunks and slabs tile them.
-/
module

public import proofs.«01_k».proof.Proof.Sched
public import Idealize.ShloMosaic.Lib.Pipeline.Value

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Indices -/

/-- The element of chunk `k` at `j`, in the buffer. -/
abbrev ixC (k : Fin 6) (j : (CSh k).Idx) : S512x256.Idx := (rectC k).emb j
/-- The element of the slab of stage `s` at `j` of chunk `k`, in the landing buffer. -/
def ixT (k : Fin 6) (s : Fin 3) (j : (CSh k).Idx) : S3x512x256.Idx := (rectT k s).emb (Fin.cons ⟨0, Nat.one_pos⟩ j)

/-- Every element of chunk `k` has coordinates within the chunk. -/
theorem mem_C {k : Fin 6} {i : S512x256.Idx} (h : i ∈ (rectC k).set) : ∃ j, i = ixC k j := by
  rw [← Rect.map_emb_univ] at h
  obtain ⟨j, _, rfl⟩ := Finset.mem_map.mp h
  exact ⟨j, rfl⟩

/-- An element of chunk `k` lies in a row of chunk `k`. -/
theorem chunkOf_ixC (k : Fin 6) (j : (CSh k).Idx) : chunkOf ((ixC k j) 0).val = k := by
  have h : ((ixC k j) 0).val = ro k + 1 * (j 0).val := rfl
  have h0 : (j 0).val < rc k := (j 0).isLt
  exact chunkOf_eq k _ (by omega) (by omega)

/-- Dropping the stage axis of length one keeps the other coordinates. -/
theorem reshape_T (k : Fin 6) (h : (CSh k).numel = (TSh k).numel) (j : (CSh k).Idx) :
    Shape.reshapeEquiv h j = (Fin.cons ⟨0, Nat.one_pos⟩ j : (TSh k).Idx) :=
  shapeCast_dropUnit_apply ![rc k, 256] (fun i => i) (castT k) j

/-- The stage coordinate of an element of slab `s` is `s`. -/
theorem ixT_0 (k : Fin 6) (s : Fin 3) (j : (CSh k).Idx) : (ixT k s j) 0 = s :=
  Fin.ext (show s.val + 1 * 0 = s.val by omega)
/-- Its row is the row of the chunk's element. -/
theorem ixT_1 (k : Fin 6) (s : Fin 3) (j : (CSh k).Idx) : (ixT k s j) 1 = (ixC k j) 0 := rfl
/-- Its last two coordinates are those of the chunk's element. -/
theorem ixT_tail (k : Fin 6) (s : Fin 3) (j : (CSh k).Idx) : tailIx (ixT k s j) = ixC k j := by
  funext a; match a with
  | ⟨0, _⟩ => rfl
  | ⟨1, _⟩ => rfl

/-- What slab `s` holds at chunk `k` once landed: what the partner of that stage held of the chunk. -/
theorem landed_ixT (c : Dev nD) (k : Fin 6) (s : Fin 3) (j : (CSh k).Idx) :
    landed m ρ c (ixT k s j) = acc m ρ s.val (peer (ax k s) c) (ixC k j) := by
  unfold landed
  rw [ixT_0, ixT_1, ixT_tail, chunkOf_ixC]

/-! ## The sets the views cover -/

/-- The view of chunk `k` of the accumulator covers the chunk's rows. -/
theorem acc_set (k : Fin 6) : (accM k).view.set = (rectC k).set := View.set_slice_whole _ _
/-- The view of a landing slab covers the chunk's rows in the slab. -/
theorem slab_set (k : Fin 6) (s : Fin 3) : (slabM k s).view.set = (rectT k s).set := by
  show (View.reshape _ _ _).set = _
  rw [View.set_reshape]; exact View.set_slice_whole _ _

/-- Where the view of a landing slab puts its elements. -/
theorem slab_emb (k : Fin 6) (s : Fin 3) (j : (CSh k).Idx) : (slabM k s).view.emb j = ixT k s j :=
  congrArg (rectT k s).emb (reshape_T k _ j)

/-! ## What the operations do -/

/-- Reading chunk `k` gives the contents at the chunk's elements. -/
theorem read_C (k : Fin 6) (f : CA F) : (aM : Memref sig .tc .vmem S512x256 .f32).view.readAt (Elt F) (rectC k).toLoadRect f = fun j => f (ixC k j) := rfl

/-- Reading a slab gives the contents at the slab's elements. -/
theorem read_T (k : Fin 6) (s : Fin 3) (f : CT F) (j : (CSh k).Idx) :
    shapeCast (CSh k) ((tM : Memref sig .tc .vmem S3x512x256 .f32).view.readAt (Elt F) (rectT k s).toLoadRect f) (castT k) j = f (ixT k s j) :=
  shapeCast_dropUnit_apply ![rc k, 256] _ (castT k) j

/-- A chunk overwritten by its sum with the landed slab holds the next stage's contents. -/
theorem write_add (c : Dev nD) (k : Fin 6) (s : Fin 3) (f : CA F) : ∀ i ∈ (rectC k).set,
    ((aM : Memref sig .tc .vmem S512x256 .f32).access (rectC k) : View sig .tc _ _ _).write (Elt F) f
      (addPay k ((aM : Memref sig .tc .vmem S512x256 .f32).view.readAt (Elt F) (rectC k).toLoadRect (acc m ρ s.val c))
        ((tM : Memref sig .tc .vmem S3x512x256 .f32).view.readAt (Elt F) (rectT k s).toLoadRect (landed m ρ c))) Finset.univ i
      = acc m ρ (s.val + 1) c i := by
  intro i hi
  obtain ⟨j, rfl⟩ := mem_C hi
  refine (View.write_emb_of_mem (v := ((aM : Memref sig .tc .vmem S512x256 .f32).access (rectC k) : View sig .tc _ _ _)) _ _ (Finset.mem_univ j)).trans ?_
  show addPay k _ _ j = FloatOps.addf (acc m ρ s.val c (ixC k j)) (acc m ρ s.val (peer (ax (chunkOf ((ixC k j) 0).val) (Fin.ofNat 3 s.val)) c) (ixC k j))
  rw [chunkOf_ixC, show Fin.ofNat 3 s.val = s from Fin.ext (Nat.mod_eq_of_lt s.isLt), ← landed_ixT, ← read_T k s (landed m ρ c) j]
  unfold addPay
  rw [shapeCast_self]
  rfl

/-- A chunk of the result is written with the activation of the chunk's sum. -/
theorem write_out (c : Dev nD) (k : Fin 6) (f : CA F) : ∀ i ∈ (rectC k).set,
    ((oM : Memref sig .tc .vmem S512x256 .f32).access (rectC k) : View sig .tc _ _ _).write (Elt F) f
      (actPay k ((aM : Memref sig .tc .vmem S512x256 .f32).view.readAt (Elt F) (rectC k).toLoadRect (acc m ρ 3 c))) Finset.univ i
      = outAt m ρ c i := by
  intro i hi
  obtain ⟨j, rfl⟩ := mem_C hi
  exact (View.write_emb_of_mem (v := ((oM : Memref sig .tc .vmem S512x256 .f32).access (rectC k) : View sig .tc _ _ _)) _ _ (Finset.mem_univ j)).trans rfl

/-- A transfer of chunk `k` at stage `s` leaves the partner's slab holding what the partner is to receive. -/
theorem write_slab (c : Dev nD) (k : Fin 6) (s : Fin 3) (f : CT F) : ∀ i ∈ (rectT k s).set,
    (slabM k s).view.write (Elt F) f ((accM k).view.read (Elt F) (acc m ρ s.val c)) Finset.univ i = landed m ρ (peer (ax k s) c) i := by
  intro i hi
  rw [← slab_set, View.set] at hi
  obtain ⟨j, _, rfl⟩ := Finset.mem_map.mp hi
  refine (View.write_emb_of_mem (v := (slabM k s).view) _ _ (Finset.mem_univ j)).trans ?_
  rw [slab_emb, landed_ixT, peer_peer]
  rfl

/-- The offsets of a whole rectangle are zero. -/
theorem hz2 : (![0, 0] : Fin 2 → Nat) = fun _ => 0 := funext fun a => by match a with | ⟨0, _⟩ => rfl | ⟨1, _⟩ => rfl

/-- The whole rectangle the copy goes through. -/
abbrev rectW : Rect S512x256 := Rect.unit (s := S512x256) ![0, 0] S512x256.size inb_S512x256_S512x256_0_0

/-- Reading the whole operand gives its contents. -/
theorem read_x (f : CA F) : (xM : Memref sig .tc .vmem S512x256 .f32).view.readAt (Elt F) rectW.toLoadRect f = f :=
  Memref.readAt_unit_zero (Elt F) cc0_stg0_0 hz2 _ f

/-- The copy leaves the accumulator holding the operand. -/
theorem write_copy (f g : CA F) :
    ((aM : Memref sig .tc .vmem S512x256 .f32).access rectW : View sig .tc _ _ _).write (Elt F) f (k0_pay2 g) Finset.univ = g := by
  rw [show k0_pay2 g = g from by unfold k0_pay2; rw [shapeCast_self]; exact shapeCast_self _ _]
  exact Memref.write_access_unit_zero_univ (Elt F) cc0_scratch0 hz2 _ f g

/-! ## Tilings -/

/-- Different chunks share no element. -/
theorem tile_C {k k' : Fin 6} (h : k ≠ k') : Disjoint (rectC k).set (rectC k').set := by
  refine Finset.disjoint_left.mpr fun i hi hi' => h ?_
  have h1 := Rect.mem_set_unit.mp hi 0
  have h2 := Rect.mem_set_unit.mp hi' 0
  exact (chunkOf_eq k _ h1.1 h1.2).symm.trans (chunkOf_eq k' _ h2.1 h2.2)

/-- Every row lies in its chunk. -/
theorem chunkOf_mem (r : ℕ) (h : r < 512) : ro (chunkOf r) ≤ r ∧ r < ro (chunkOf r) + rc (chunkOf r) := by
  unfold chunkOf
  split_ifs <;> simp only [ro, rc] <;> omega

/-- The six chunks cover the buffer. -/
theorem cover_C : (Finset.univ : Finset (Fin 6)).biUnion (fun k => (rectC k).set) = Finset.univ := by
  refine Finset.eq_univ_iff_forall.mpr fun i => Finset.mem_biUnion.mpr ⟨chunkOf (i 0).val, Finset.mem_univ _, Rect.mem_set_unit.mpr fun a => ?_⟩
  match a with
  | ⟨0, _⟩ => exact chunkOf_mem _ (i 0).isLt
  | ⟨1, _⟩ => exact ⟨Nat.zero_le _, by have := (i 1).isLt; simpa using this⟩

/-- Slabs of different transfers share no element. -/
theorem tile_T {x y : XIx} (h : x ≠ y) : Disjoint (rectT x.1 x.2).set (rectT y.1 y.2).set := by
  refine Finset.disjoint_left.mpr fun i hi hi' => h ?_
  have h0 := Rect.mem_set_unit.mp hi 0
  have h0' := Rect.mem_set_unit.mp hi' 0
  have h1 := Rect.mem_set_unit.mp hi 1
  have h1' := Rect.mem_set_unit.mp hi' 1
  refine Prod.ext ((chunkOf_eq x.1 _ h1.1 h1.2).symm.trans (chunkOf_eq y.1 _ h1'.1 h1'.2)) (Fin.ext ?_)
  have e : (i 0).val < x.2.val + 1 := h0.2
  have e' : (i 0).val < y.2.val + 1 := h0'.2
  have g : x.2.val ≤ (i 0).val := h0.1
  have g' : y.2.val ≤ (i 0).val := h0'.1
  omega

/-- The eighteen slabs cover the landing buffer. -/
theorem cover_T : (Finset.univ : Finset XIx).biUnion (fun x => (rectT x.1 x.2).set) = Finset.univ := by
  refine Finset.eq_univ_iff_forall.mpr fun i => Finset.mem_biUnion.mpr ⟨(chunkOf (i 1).val, i 0), Finset.mem_univ _, Rect.mem_set_unit.mpr fun a => ?_⟩
  match a with
  | ⟨0, _⟩ => exact ⟨Nat.le_refl _, Nat.lt_succ_self _⟩
  | ⟨1, _⟩ => exact chunkOf_mem _ (i 1).isLt
  | ⟨2, _⟩ => exact ⟨Nat.zero_le _, by have := (i 2).isLt; simpa using this⟩

/-- The accumulator, whole, is its six chunks. -/
theorem accPts_all (c : Dev nD) (f : CA F) :
    ((((c : Thread nD τ).loc cc0_scratch0) ↦{fullShare} f : sProp 𝕄)) = bigSep Finset.univ fun k => accPts c k f := by
  show ((((c : Thread nD τ).loc cc0_scratch0) ↦[Finset.univ]{fullShare} f : sProp 𝕄)) = _
  rw [← cover_C]
  exact pointsTo_biUnion (ℓ := (c : Thread nD τ).loc cc0_scratch0) Finset.univ (fun k => (rectC k).set) fun _ _ _ _ h => tile_C h

/-- The result's buffer, whole, is its six chunks. -/
theorem outPts_all (c : Dev nD) (f : CA F) :
    ((((c : Thread nD τ).loc cc0_stg1_0) ↦{fullShare} f : sProp 𝕄)) = bigSep Finset.univ fun k => outPts c k f := by
  show ((((c : Thread nD τ).loc cc0_stg1_0) ↦[Finset.univ]{fullShare} f : sProp 𝕄)) = _
  rw [← cover_C]
  exact pointsTo_biUnion (ℓ := (c : Thread nD τ).loc cc0_stg1_0) Finset.univ (fun k => (rectC k).set) fun _ _ _ _ h => tile_C h

/-- The landing buffer, whole, is its eighteen slabs. -/
theorem slabPts_all (c : Dev nD) (f : CT F) :
    ((((c : Thread nD τ).loc cc0_scratch1) ↦{fullShare} f : sProp 𝕄)) = bigSep Finset.univ fun x : XIx => slabPts c x.1 x.2 f := by
  show ((((c : Thread nD τ).loc cc0_scratch1) ↦[Finset.univ]{fullShare} f : sProp 𝕄)) = _
  rw [← cover_T]
  exact pointsTo_biUnion (ℓ := (c : Thread nD τ).loc cc0_scratch1) Finset.univ (fun x : XIx => (rectT x.1 x.2).set) fun _ _ _ _ h => tile_T h

end Cert.KernelIdeal.Hand

end
-- ==== Proof.Chunk.lean ====
/-
One chunk's way through the exchange on one device: its states before, between and after the three stages, and the
program steps that take it from one to the next.
-/
module

public import proofs.«01_k».proof.Proof.Pieces

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The kernel has no loop that needs a variant. -/
abbrev 𝒱₀ : Variants := Variants.none

/-- What running `p` on device `c` needs for `Q` after it. -/
abbrev WP (c : Dev nD) (p : P F PUnit) (Q : PUnit → sProp 𝕄) : sProp 𝕄 :=
  wp frame (wpE (defs₀ (F := F)) 𝒱₀ (c : Thread nD τ) none) Set.univ p Q

/-! ## Persistent records -/

/-- Every cell's invariant, under the names `K` the launch gave them, and that every cell has reached round 0. -/
def records (K : Dev nD × CIx → ℕ) : sProp 𝕄 :=
  iprop((bigSep Finset.univ fun ci : Dev nD × CIx => cellInv ER (xRd m ρ) (K ci) (kcell ci))
    ∗ bigSep Finset.univ fun ci : Dev nD × CIx => reached ER (kcell ci) 0)

/-- The records may be used any number of times. -/
instance records_persistent (K : Dev nD × CIx → ℕ) : BI.Persistent (records m ρ K) := by unfold records; infer_instance

/-- The records hold the invariant of every cell. -/
theorem inv_at (K : Dev nD × CIx → ℕ) (ci : Dev nD × CIx) : records m ρ K ⊢ cellInv ER (xRd m ρ) (K ci) (kcell ci) :=
  (show records m ρ K ⊢ bigSep Finset.univ fun ci : Dev nD × CIx => (cellInv ER (xRd m ρ) (K ci) (kcell ci) : sProp 𝕄) from by
    unfold records; iintro ⟨#H, -⟩; iexact H).trans (bigSep_elim (Finset.mem_univ ci))
/-- The records say that every cell has reached its round. -/
theorem reached_at (K : Dev nD × CIx → ℕ) (ci : Dev nD × CIx) : records m ρ K ⊢ reached ER (kcell ci) 0 :=
  (show records m ρ K ⊢ bigSep Finset.univ fun ci : Dev nD × CIx => (reached ER (kcell ci) 0 : sProp 𝕄) from by
    unfold records; iintro ⟨-, #H⟩; iexact H).trans (bigSep_elim (Finset.mem_univ ci))

/-- The invariant of a barrier cell. -/
theorem inv_bar (K : Dev nD × CIx → ℕ) (c : Dev nD) : records m ρ K ⊢ cellInv ER (xRd m ρ) (K (c, none)) (barCell c) := inv_at m ρ K (c, none)
/-- The invariant of a send cell. -/
theorem inv_snd (K : Dev nD × CIx → ℕ) (c : Dev nD) (k s) : records m ρ K ⊢ cellInv ER (xRd m ρ) (K (c, some (false, k, s))) (sndCell c k s) := inv_at m ρ K (c, some (false, k, s))
/-- The invariant of a receive cell. -/
theorem inv_rcv (K : Dev nD × CIx → ℕ) (c : Dev nD) (k s) : records m ρ K ⊢ cellInv ER (xRd m ρ) (K (c, some (true, k, s))) (rcvCell c k s) := inv_at m ρ K (c, some (true, k, s))
/-- A barrier cell has reached its round. -/
theorem reached_bar (K : Dev nD × CIx → ℕ) (c : Dev nD) : records m ρ K ⊢ reached ER (barCell c) 0 := reached_at m ρ K (c, none)
/-- A send cell has reached its round. -/
theorem reached_snd (K : Dev nD × CIx → ℕ) (c : Dev nD) (k s) : records m ρ K ⊢ reached ER (sndCell c k s) 0 := reached_at m ρ K (c, some (false, k, s))
/-- A receive cell has reached its round. -/
theorem reached_rcv (K : Dev nD × CIx → ℕ) (c : Dev nD) (k s) : records m ρ K ⊢ reached ER (rcvCell c k s) 0 := reached_at m ρ K (c, some (true, k, s))

/-! ## A transfer's states -/

/-- What device `c` owes, whatever it has waited for. -/
def ow (c : Dev nD) (O : CellTallies nD τ sig Unit) : sProp 𝕄 := iprop(∃ W, owes (c : Thread nD τ) O W)

/-- The transfer not started: the tokens of its two duties, the partner's slab, the credit of the one to come in and
    both positions. -/
def Todo (c : Dev nD) (k : Fin 6) (s : Fin 3) : sProp 𝕄 :=
  iprop(dutyTok ER (sndCell c k s) 0 0 ∗ dutyTok ER (rcvCell (peer (ax k s) c) k s) 0 0 ∗ (∃ f, slabPts (peer (ax k s) c) k s f)
    ∗ cred (tallyAt (rcvCell c k s) () (N k)) ∗ atPos ER (sndCell c k s) 0 ∅ 0 ∗ atPos ER (rcvCell c k s) 0 ∅ 0)
/-- The transfer started and not waited for. -/
def Fly (c : Dev nD) (k : Fin 6) (s : Fin 3) : sProp 𝕄 :=
  iprop(cred (tallyAt (sndCell c k s) () (N k)) ∗ cred (tallyAt (rcvCell c k s) () (N k)) ∗ atPos ER (sndCell c k s) 0 ∅ 0 ∗ atPos ER (rcvCell c k s) 0 ∅ 0)
/-- The transfer over: the own slab landed, both cells closed. -/
def Done (c : Dev nD) (k : Fin 6) (s : Fin 3) : sProp 𝕄 :=
  iprop(slabPts c k s (landed m ρ c) ∗ semVal (sndCell c k s) 0 ∗ semVal (rcvCell c k s) 0)

/-! ## The steps -/

section Steps
variable (K : Dev nD × CIx → ℕ) (c : Dev nD) (k : Fin 6) (s : Fin 3)

/-- Starting a transfer. -/
theorem wp_start :
    iprop(records m ρ K ∗ Todo c k s ∗ accPts c k (acc m ρ s.val c) ∗ ow c (rem (ord (k, s)) c))
      ⊢ WP c (startP k s (peer (ax k s) c)) fun _ => iprop(Fly c k s ∗ ow c (rem (ord (k, s) + 1) c)) := by
  unfold startP Todo ow accPts slabPts
  simp only [Prog.lift]
  iintro ⟨#HR, ⟨HtS, HtR, ⟨%f, Hslab⟩, Hc, HaS, HaR⟩, Hacc, %W, HO⟩
  rw [← acc_set k, ← slab_set k s]
  iapply (Rounds.wp_send_pointsTo 𝒱₀ ER (xRd m ρ) (c : Thread nD τ) none (c' := (peer (ax k s) c : Thread nD τ)) (src := accM k) (dst := slabM k s)
    (κ₁ := K (c, some (false, k, s))) (κ₂ := K (peer (ax k s) c, some (true, k, s)))
    (r₁ := 0) (r₂ := 0) (d₁ := 0) (d₂ := 0) (fs := acc m ρ s.val c) (fd := f)
    (by rw [duties_snd]; exact Finset.mem_singleton_self _) (by rw [duties_rcv]; exact Finset.mem_singleton_self _)
    () () (N k) rfl (amount_snd m ρ c k s 0) (amount_rcv m ρ _ k s 0) (rem (ord (k, s) + 1) c) (rem_step c (k, s)) (W := W)
    (by rw [payload_snd]; unfold accPts; rw [← acc_set k])
    (by
      rw [payload_rcv, slab_set]
      exact Entails.of_eq (pointsTo_congr (ℓ := (peer (ax k s) c : Thread nD τ).loc cc0_scratch1) (write_slab m ρ c k s f)))) $$ [Hacc Hslab HO HtS HtR]
  · isplitr; · iapply (inv_snd m ρ K c k s); iexact HR
    isplitr; · iapply (inv_rcv m ρ K (peer (ax k s) c) k s); iexact HR
    isplitl [Hacc]; · iexact Hacc
    isplitl [Hslab]; · iexact Hslab
    isplitl [HO]; · iexact HO
    isplitl [HtS]; · iexact HtS
    isplitr; · iapply (reached_snd m ρ K c k s); iexact HR
    isplitl [HtR]; · iexact HtR
    iapply (reached_rcv m ρ K (peer (ax k s) c) k s); iexact HR
  iintro ⟨HcS, HO⟩
  rw [wp_ret]; imodintro
  unfold Fly
  isplitr [HO]
  · isplitl [HcS]; · iexact HcS
    isplitl [Hc]; · iexact Hc
    isplitl [HaS] <;> iassumption
  · iexists W; iexact HO

/-- Receiving and adding: both waits pass while only transfers of later stages are owed. -/
theorem wp_recv (n : ℕ) (hn : ∀ ks : XIx, n ≤ ord ks → s.val < ks.2.val) :
    iprop(records m ρ K ∗ levAts L lv ∗ Fly c k s ∗ ow c (rem n c))
      ⊢ WP c (recvP k s) fun _ => iprop(Done m ρ c k s ∗ accPts c k (acc m ρ (s.val + 1) c) ∗ ow c (rem n c)) := by
  unfold recvP Fly ow
  simp only [Prog.lift, Prog.bind_op, Prog.bind_ret]
  iintro ⟨#HR, #Hlev, ⟨HcS, HcR, HaS, HaR⟩, %W, HO⟩
  -- the wait for the own transfer: the chunk back
  iapply (Rounds.wp_wait_rest_token 𝒱₀ ER (xRd m ρ) (c : Thread nD τ) none (κ := K (c, some (false, k, s)))
      (wpE_waitDma2_eq 𝒱₀ (c : Thread nD τ) none Set.univ) (Set.mem_univ _) () (O := rem n c) (W := W) (R := 0) (m := 0) (T := ∅)
      (by rw [Nat.zero_add, expect_snd]; rfl)) $$ [HcS HO HaS]
  · isplitr; · iapply (inv_snd m ρ K c k s); iexact HR
    isplitl [HcS]; · iexact HcS
    isplitl [HO]; · iexact HO
    isplitr
    · iapply (mayWait_rem c (.dma (sndS k s)) n 0 (Nat.le_of_eq (lv_snd c k s)) (fun ks h => by omega)); iexact Hlev
    iexact HaS
  iintro ⟨HO, HaS, -, Hpay⟩
  ihave Hacc := (Entails.of_eq (rest_snd m ρ c k s)) $$ Hpay
  -- the wait for the partner's: the slab landed
  iapply (Rounds.wp_wait_rest_token 𝒱₀ ER (xRd m ρ) (c : Thread nD τ) none (κ := K (c, some (true, k, s)))
      (wpE_waitDma2_eq 𝒱₀ (c : Thread nD τ) none Set.univ) (Set.mem_univ _) () (O := rem n c) (W := insert (SemLoc.dma (sndS k s), ()) W) (R := 0) (m := 0) (T := ∅)
      (by rw [Nat.zero_add, expect_rcv]; rfl)) $$ [HcR HO HaR]
  · isplitr; · iapply (inv_rcv m ρ K c k s); iexact HR
    isplitl [HcR]; · iexact HcR
    isplitl [HO]; · iexact HO
    isplitr
    · iapply (mayWait_rem c (.dma (rcvS k s)) n (2 + s.val) (Nat.le_of_eq (lv_rcv c k s)) (fun ks h => by have := hn ks h; omega)); iexact Hlev
    iexact HaR
  iintro ⟨HO, HaR, -, Hpay⟩
  ihave Hslab := (Entails.of_eq (rest_rcv m ρ c k s)) $$ Hpay
  imod (Rounds.cell_close ER (xRd m ρ) (Set.mem_univ (K (c, some (false, k, s)))) (fun h => h) (R := 0 + 1) (duties_later m ρ (sndCell c k s))) $$ [HaS] with HzS
  · isplitr; · iapply (inv_snd m ρ K c k s); iexact HR
    iexact HaS
  imod (Rounds.cell_close ER (xRd m ρ) (Set.mem_univ (K (c, some (true, k, s)))) (fun h => h) (R := 0 + 1) (duties_later m ρ (rcvCell c k s))) $$ [HaR] with HzR
  · isplitr; · iapply (inv_rcv m ρ K c k s); iexact HR
    iexact HaR
  unfold accPts slabPts
  iapply (wp_load_rect 𝒱₀ (c : Thread nD τ) none Set.univ (m := aM) (r := rectC k) (acc_set k).subset) $$ Hacc; iintro Hacc
  iapply (wp_load_rect 𝒱₀ (c : Thread nD τ) none Set.univ (m := tM) (r := rectT k s) (View.set_slice_whole _ _).subset) $$ Hslab; iintro Hslab
  iapply (wp_load_rect 𝒱₀ (c : Thread nD τ) none Set.univ (m := aM) (r := rectC k) (acc_set k).subset) $$ Hacc; iintro Hacc
  iapply (wp_store 𝒱₀ (c : Thread nD τ) none Set.univ (m := aM) (r := rectC k) (Mk := Finset.univ)
    ((View.setOn_subset_set _ _).trans (acc_set k).subset)) $$ Hacc; iintro Hacc
  rw [wp_ret]; imodintro
  unfold Done slabPts
  isplitl [Hslab HzS HzR]
  · isplitl [Hslab]; · iexact Hslab
    isplitl [HzS] <;> iassumption
  isplitl [Hacc]
  · iapply (Entails.of_eq (pointsTo_congr (ℓ := (c : Thread nD τ).loc cc0_scratch0) (write_add m ρ c k s (acc m ρ s.val c)))); iexact Hacc
  · iexists _; iexact HO

/-- Writing the chunk's result. -/
theorem wp_out :
    iprop(accPts c k (acc m ρ 3 c) ∗ (∃ f, outPts c k f))
      ⊢ WP c (outP k) fun _ => iprop(accPts c k (acc m ρ 3 c) ∗ outPts c k (outAt m ρ c)) := by
  unfold outP accPts outPts
  simp only [Prog.lift, Prog.bind_op, Prog.bind_ret]
  iintro ⟨Hacc, %f, Hout⟩
  iapply (wp_load_rect 𝒱₀ (c : Thread nD τ) none Set.univ (m := aM) (r := rectC k) (acc_set k).subset) $$ Hacc; iintro Hacc
  iapply (wp_load_rect 𝒱₀ (c : Thread nD τ) none Set.univ (m := oM) (r := rectC k) (View.set_slice_whole _ _).subset) $$ Hout; iintro Hout
  iapply (wp_store 𝒱₀ (c : Thread nD τ) none Set.univ (m := oM) (r := rectC k) (Mk := Finset.univ)
    ((View.setOn_subset_set _ _).trans (View.set_slice_whole _ _).subset)) $$ Hout; iintro Hout
  rw [wp_ret]; imodintro
  isplitl [Hacc]; · iexact Hacc
  iapply (Entails.of_eq (pointsTo_congr (ℓ := (c : Thread nD τ).loc cc0_stg1_0) (write_out m ρ c k f))); iexact Hout

end Steps

end Cert.KernelIdeal.Hand

end
-- ==== Proof.Body.lean ====
/-
The kernel body on one device: the barrier, the copy, and the twenty-four steps, each step moving one chunk one state
on. The body's obligation to the pipeline library closes the file.
-/
module

public import proofs.«01_k».proof.Proof.Chunk

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A separating conjunction over three items, written out. -/
theorem bigSep_fin3 (Φ : Fin 3 → sProp 𝕄) : bigSep Finset.univ Φ = iprop(Φ 0 ∗ Φ 1 ∗ Φ 2) := bigSep_univ_eq_bigSepL [0, 1, 2] (by decide) (by decide) Φ

/-- Running one program and then another needs what the first needs for what the second needs. -/
theorem WP_bind (c : Dev nD) (p : P F PUnit) (q : PUnit → P F PUnit) (Q : PUnit → sProp 𝕄) :
    WP c (p >>= q) Q = WP c p fun a => WP c (q a) Q := wp_bind _ _ _ _ _ _

/-! ## The steps of one chunk -/

/-- Chunk `k` of device `c` after `p` of its four steps. -/
def Ch (c : Dev nD) (k : Fin 6) (p : ℕ) : sProp 𝕄 := match p with
  | 0 => iprop(accPts c k (acc m ρ 0 c) ∗ (∃ f, outPts c k f) ∗ Todo c k 0 ∗ Todo c k 1 ∗ Todo c k 2)
  | 1 => iprop(Fly c k 0 ∗ (∃ f, outPts c k f) ∗ Todo c k 1 ∗ Todo c k 2)
  | 2 => iprop(Fly c k 1 ∗ (∃ f, outPts c k f) ∗ Done m ρ c k 0 ∗ Todo c k 2)
  | 3 => iprop(Fly c k 2 ∗ (∃ f, outPts c k f) ∗ Done m ρ c k 0 ∗ Done m ρ c k 1)
  | _ => iprop(accPts c k (acc m ρ 3 c) ∗ outPts c k (outAt m ρ c) ∗ Done m ρ c k 0 ∗ Done m ρ c k 1 ∗ Done m ρ c k 2)

/-- Step `p` of chunk `k` on device `c`. -/
def stepP (c : Dev nD) (k : Fin 6) (p : Fin 4) : P F PUnit := match p with
  | 0 => startP k 0 (peer (ax k 0) c)
  | 1 => midP k 0 1 (peer (ax k 1) c)
  | 2 => midP k 1 2 (peer (ax k 2) c)
  | 3 => lastP k

section Steps
variable (K : Dev nD × CIx → ℕ) (c : Dev nD) (k : Fin 6)

/-- A receive-and-add step and the next start. -/
theorem wp_mid (s s' : Fin 3) (hs : s'.val = s.val + 1) :
    iprop(records m ρ K ∗ levAts L lv ∗ Fly c k s ∗ Todo c k s' ∗ ow c (rem (ord (k, s')) c))
      ⊢ WP c (midP k s s' (peer (ax k s') c)) fun _ => iprop(Fly c k s' ∗ Done m ρ c k s ∗ ow c (rem (ord (k, s') + 1) c)) := by
  unfold midP
  rw [WP_bind]
  iintro ⟨#HR, #Hlev, Hf, Ht, Ho⟩
  iapply (wp_wand frame (wpE (defs₀ (F := F)) 𝒱₀ (c : Thread nD τ) none) Set.univ) $$ [Hf Ho]
  · iapply (wp_recv m ρ K c k s (ord (k, s')) (fun ks h => by
      have h1 := ks.1.isLt; have h2 : k.val < 6 := k.isLt
      unfold ord at h; dsimp only at h; omega))
    isplitr; · iexact HR
    isplitr; · iexact Hlev
    isplitl [Hf] <;> iassumption
  iintro %_ ⟨HD, Hacc, Ho⟩
  iapply (wp_wand frame (wpE (defs₀ (F := F)) 𝒱₀ (c : Thread nD τ) none) Set.univ) $$ [Ht Hacc Ho]
  · iapply (wp_start m ρ K c k s')
    isplitr; · iexact HR
    isplitl [Ht]; · iexact Ht
    isplitl [Hacc]; · rw [hs]; iexact Hacc
    iexact Ho
  iintro %_ ⟨Hf, Ho⟩
  isplitl [Hf]; · iexact Hf
  isplitl [HD] <;> iassumption

/-- The last step of a chunk: nothing is owed any more. -/
theorem wp_last (n n' : ℕ) (hn : 18 ≤ n) (hn' : 18 ≤ n') :
    iprop(records m ρ K ∗ levAts L lv ∗ Fly c k 2 ∗ (∃ f, outPts c k f) ∗ ow c (rem n c))
      ⊢ WP c (lastP k) fun _ => iprop(accPts c k (acc m ρ 3 c) ∗ outPts c k (outAt m ρ c) ∗ Done m ρ c k 2 ∗ ow c (rem n' c)) := by
  unfold lastP
  rw [WP_bind]
  iintro ⟨#HR, #Hlev, Hf, Hout, Ho⟩
  iapply (wp_wand frame (wpE (defs₀ (F := F)) 𝒱₀ (c : Thread nD τ) none) Set.univ) $$ [Hf Ho]
  · iapply (wp_recv m ρ K c k 2 n (fun ks h => by
      have h1 := ks.1.isLt; have h2 := ks.2.isLt
      unfold ord at h; omega))
    isplitr; · iexact HR
    isplitr; · iexact Hlev
    isplitl [Hf] <;> iassumption
  iintro %_ ⟨HD, Hacc, Ho⟩
  iapply (wp_wand frame (wpE (defs₀ (F := F)) 𝒱₀ (c : Thread nD τ) none) Set.univ) $$ [Hacc Hout]
  · iapply (wp_out m ρ c k)
    isplitl [Hacc]; · iexact Hacc
    iexact Hout
  iintro %_ ⟨Hacc, Hout⟩
  isplitl [Hacc]; · iexact Hacc
  isplitl [Hout]; · iexact Hout
  isplitl [HD]; · iexact HD
  rw [rem_end n hn, rem_end n' hn']
  iexact Ho

/-- Step `p` of a chunk takes it one state on. -/
theorem wp_chunk (p : Fin 4) :
    iprop(records m ρ K ∗ levAts L lv ∗ Ch m ρ c k p.val ∗ ow c (rem (6 * p.val + k.val) c))
      ⊢ WP c (stepP c k p) fun _ => iprop(Ch m ρ c k (p.val + 1) ∗ ow c (rem (6 * p.val + k.val + 1) c)) := by
  match p with
  | 0 =>
    show iprop(_ ∗ _ ∗ (accPts c k (acc m ρ 0 c) ∗ (∃ f, outPts c k f) ∗ Todo c k 0 ∗ Todo c k 1 ∗ Todo c k 2) ∗ _) ⊢ WP c (startP k 0 (peer (ax k 0) c)) fun _ =>
      iprop((Fly c k 0 ∗ (∃ f, outPts c k f) ∗ Todo c k 1 ∗ Todo c k 2) ∗ ow c (rem (ord (k, 0) + 1) c))
    iintro ⟨#HR, #Hlev, ⟨Ha, Hout, H0, H1, H2⟩, Ho⟩
    iapply (wp_wand frame (wpE (defs₀ (F := F)) 𝒱₀ (c : Thread nD τ) none) Set.univ) $$ [H0 Ha Ho]
    · iapply (wp_start m ρ K c k 0)
      isplitr; · iexact HR
      isplitl [H0]; · iexact H0
      isplitl [Ha]; · iexact Ha
      iexact Ho
    iintro %_ ⟨Hf, Ho⟩
    isplitr [Ho]
    · isplitl [Hf]; · iexact Hf
      isplitl [Hout]; · iexact Hout
      isplitl [H1] <;> iassumption
    iexact Ho
  | 1 =>
    show iprop(_ ∗ _ ∗ (Fly c k 0 ∗ (∃ f, outPts c k f) ∗ Todo c k 1 ∗ Todo c k 2) ∗ _) ⊢ WP c (midP k 0 1 (peer (ax k 1) c)) fun _ =>
      iprop((Fly c k 1 ∗ (∃ f, outPts c k f) ∗ Done m ρ c k 0 ∗ Todo c k 2) ∗ ow c (rem (ord (k, 1) + 1) c))
    iintro ⟨#HR, #Hlev, ⟨Hf, Hout, H1, H2⟩, Ho⟩
    iapply (wp_wand frame (wpE (defs₀ (F := F)) 𝒱₀ (c : Thread nD τ) none) Set.univ) $$ [Hf H1 Ho]
    · iapply (wp_mid m ρ K c k 0 1 rfl)
      isplitr; · iexact HR
      isplitr; · iexact Hlev
      isplitl [Hf]; · iexact Hf
      isplitl [H1]; · iexact H1
      iexact Ho
    iintro %_ ⟨Hf, HD, Ho⟩
    isplitr [Ho]
    · isplitl [Hf]; · iexact Hf
      isplitl [Hout]; · iexact Hout
      isplitl [HD] <;> iassumption
    iexact Ho
  | 2 =>
    show iprop(_ ∗ _ ∗ (Fly c k 1 ∗ (∃ f, outPts c k f) ∗ Done m ρ c k 0 ∗ Todo c k 2) ∗ _) ⊢ WP c (midP k 1 2 (peer (ax k 2) c)) fun _ =>
      iprop((Fly c k 2 ∗ (∃ f, outPts c k f) ∗ Done m ρ c k 0 ∗ Done m ρ c k 1) ∗ ow c (rem (ord (k, 2) + 1) c))
    iintro ⟨#HR, #Hlev, ⟨Hf, Hout, H0, H2⟩, Ho⟩
    iapply (wp_wand frame (wpE (defs₀ (F := F)) 𝒱₀ (c : Thread nD τ) none) Set.univ) $$ [Hf H2 Ho]
    · iapply (wp_mid m ρ K c k 1 2 rfl)
      isplitr; · iexact HR
      isplitr; · iexact Hlev
      isplitl [Hf]; · iexact Hf
      isplitl [H2]; · iexact H2
      iexact Ho
    iintro %_ ⟨Hf, HD, Ho⟩
    isplitr [Ho]
    · isplitl [Hf]; · iexact Hf
      isplitl [Hout]; · iexact Hout
      isplitl [H0] <;> iassumption
    iexact Ho
  | 3 =>
    show iprop(_ ∗ _ ∗ (Fly c k 2 ∗ (∃ f, outPts c k f) ∗ Done m ρ c k 0 ∗ Done m ρ c k 1) ∗ _) ⊢ WP c (lastP k) fun _ =>
      iprop((accPts c k (acc m ρ 3 c) ∗ outPts c k (outAt m ρ c) ∗ Done m ρ c k 0 ∗ Done m ρ c k 1 ∗ Done m ρ c k 2) ∗ ow c (rem (18 + k.val + 1) c))
    iintro ⟨#HR, #Hlev, ⟨Hf, Hout, H0, H1⟩, Ho⟩
    iapply (wp_wand frame (wpE (defs₀ (F := F)) 𝒱₀ (c : Thread nD τ) none) Set.univ) $$ [Hf Hout Ho]
    · iapply (wp_last m ρ K c k (18 + k.val) (18 + k.val + 1) (by omega) (by omega))
      isplitr; · iexact HR
      isplitr; · iexact Hlev
      isplitl [Hf]; · iexact Hf
      isplitl [Hout]; · iexact Hout
      iexact Ho
    iintro %_ ⟨Ha, Hout, HD, Ho⟩
    isplitr [Ho]
    · isplitl [Ha]; · iexact Ha
      isplitl [Hout]; · iexact Hout
      isplitl [H0]; · iexact H0
      isplitl [H1] <;> iassumption
    iexact Ho

end Steps

/-! ## All chunks together -/

/-- How many of chunk `k`'s steps are among the first `n`. -/
def ph (n : ℕ) (k : Fin 6) : ℕ := (n + 5 - k.val) / 6

/-- The state after `n` steps. -/
def St (c : Dev nD) (n : ℕ) : sProp 𝕄 := iprop((bigSep Finset.univ fun k => Ch m ρ c k (ph n k)) ∗ ow c (rem n c))

/-- One step of the body. -/
theorem wp_step (K : Dev nD × CIx → ℕ) (c : Dev nD) (k : Fin 6) (p : Fin 4) :
    iprop(records m ρ K ∗ levAts L lv ∗ St m ρ c (6 * p.val + k.val))
      ⊢ WP c (stepP c k p) fun _ => St m ρ c (6 * p.val + k.val + 1) := by
  unfold St
  rw [bigSep_univ_at _ k, bigSep_univ_at _ k,
    show ph (6 * p.val + k.val) k = p.val from by unfold ph; have := k.isLt; omega,
    show ph (6 * p.val + k.val + 1) k = p.val + 1 from by unfold ph; have := k.isLt; omega,
    show bigSep (Finset.univ.erase k) (fun k' => Ch m ρ c k' (ph (6 * p.val + k.val + 1) k')) = bigSep (Finset.univ.erase k) (fun k' => Ch m ρ c k' (ph (6 * p.val + k.val) k')) from
      bigSep_congr fun k' hk' => by
        have h : k'.val ≠ k.val := fun e => (Finset.mem_erase.mp hk').1 (Fin.ext e)
        rw [show ph (6 * p.val + k.val + 1) k' = ph (6 * p.val + k.val) k' from by
          unfold ph; have := k.isLt; have := k'.isLt; omega]]
  iintro ⟨#HR, #Hlev, ⟨Hk, Hrest⟩, Ho⟩
  iapply (wp_wand frame (wpE (defs₀ (F := F)) 𝒱₀ (c : Thread nD τ) none) Set.univ) $$ [Hk Ho]
  · iapply (wp_chunk m ρ K c k p)
    isplitr; · iexact HR
    isplitr; · iexact Hlev
    isplitl [Hk] <;> iassumption
  iintro %_ ⟨Hk, Ho⟩
  isplitr [Ho]
  · isplitl [Hk] <;> iassumption
  iexact Ho

/-- A step before the rest of the body. -/
theorem wp_next (K : Dev nD × CIx → ℕ) (c : Dev nD) (k : Fin 6) (p : Fin 4) (q : P F PUnit) (Q : PUnit → sProp 𝕄)
    (h : iprop((records m ρ K ∗ levAts L lv) ∗ St m ρ c (6 * p.val + k.val + 1)) ⊢ WP c q Q) :
    iprop((records m ρ K ∗ levAts L lv) ∗ St m ρ c (6 * p.val + k.val)) ⊢ WP c (stepP c k p >>= fun _ => q) Q := by
  rw [WP_bind]
  iintro ⟨⟨#HR, #Hlev⟩, HS⟩
  iapply (wp_wand frame (wpE (defs₀ (F := F)) 𝒱₀ (c : Thread nD τ) none) Set.univ) $$ [HS]
  · iapply (wp_step m ρ K c k p)
    isplitr; · iexact HR
    isplitr; · iexact Hlev
    iexact HS
  iintro %_ HS
  iapply h
  isplitr
  · isplitr; · iexact HR
    iexact Hlev
  iexact HS

/-- The part of the body after the copy takes every chunk through its four steps. -/
theorem wp_rest (K : Dev nD × CIx → ℕ) (c : Dev nD) :
    iprop((records m ρ K ∗ levAts L lv) ∗ St m ρ c 0) ⊢ WP c (restP fun k s => peer (ax k s) c) fun _ => St m ρ c 24 :=
  wp_next m ρ K c 0 0 _ _ <| wp_next m ρ K c 1 0 _ _ <| wp_next m ρ K c 2 0 _ _ <|
  wp_next m ρ K c 3 0 _ _ <| wp_next m ρ K c 4 0 _ _ <| wp_next m ρ K c 5 0 _ _ <|
  wp_next m ρ K c 0 1 _ _ <| wp_next m ρ K c 1 1 _ _ <| wp_next m ρ K c 2 1 _ _ <|
  wp_next m ρ K c 3 1 _ _ <| wp_next m ρ K c 4 1 _ _ <| wp_next m ρ K c 5 1 _ _ <|
  wp_next m ρ K c 0 2 _ _ <| wp_next m ρ K c 1 2 _ _ <| wp_next m ρ K c 2 2 _ _ <|
  wp_next m ρ K c 3 2 _ _ <| wp_next m ρ K c 4 2 _ _ <| wp_next m ρ K c 5 2 _ _ <|
  wp_next m ρ K c 0 3 _ _ <| wp_next m ρ K c 1 3 _ _ <| wp_next m ρ K c 2 3 _ _ <|
  wp_next m ρ K c 3 3 _ _ <| wp_next m ρ K c 4 3 _ _ <|
  sep_assoc.1.trans (wp_step m ρ K c 5 3)

/-! ## The barrier and the copy -/

/-- Slabs over all transfers, grouped by the axis their transfer crosses. -/
theorem by_axis (Φ : XIx → sProp 𝕄) :
    bigSep Finset.univ Φ = bigSep Finset.univ fun a : Fin 3 => bigSep (Finset.univ.filter fun ks : XIx => ax ks.1 ks.2 = a) Φ := by
  rw [bigSep_fiberwise Finset.univ (fun ks : XIx => ax ks.1 ks.2) Φ, show (Finset.univ.image fun ks : XIx => ax ks.1 ks.2) = Finset.univ from by decide]

/-- The barrier pays each partner the own slabs of its axis and brings the partners'. -/
theorem wp_bar (K : Dev nD × CIx → ℕ) (c : Dev nD) :
    iprop(records m ρ K ∗ levAts L lv ∗ (dutyTok ER (barCell (peer 0 c)) 0 0 ∗ dutyTok ER (barCell (peer 1 c)) 0 1 ∗ dutyTok ER (barCell (peer 2 c)) 0 2)
        ∗ (bigSep Finset.univ fun ks : XIx => slabAny c ks) ∗ cred (tallyAt (barCell c) () 3) ∗ atPos ER (barCell c) 0 ∅ 0 ∗ ow c (O₀ c))
      ⊢ WP c (barP fun a => peer a c) fun _ =>
          iprop((bigSep Finset.univ fun ks : XIx => slabAny (peer (ax ks.1 ks.2) c) ks) ∗ semVal (barCell c) 0 ∗ ow c (rem 0 c)) := by
  have hpay (a : Fin 3) : bigSep (Finset.univ.filter fun ks : XIx => ax ks.1 ks.2 = a) (fun ks => (slabAny c ks : sProp 𝕄)) = barPay (peer a c) a := by
    unfold barPay; rw [peer_peer]
  have hget : (bigSep Finset.univ fun ks : XIx => (slabAny (peer (ax ks.1 ks.2) c) ks : sProp 𝕄)) = bigSep Finset.univ fun a => barPay c a := by
    rw [by_axis]
    refine bigSep_congr fun a _ => ?_
    unfold barPay
    exact bigSep_congr fun ks hks => by rw [(Finset.mem_filter.mp hks).2]
  rw [hget, by_axis, bigSep_fin3, hpay, hpay, hpay]
  unfold barP ow
  simp only [semSignalWord, semWaitWord, Prog.lift, Prog.bind_op, Prog.bind_ret, Prog.pure_eq_ret]
  iintro ⟨#HR, #Hlev, ⟨Ht0, Ht1, Ht2⟩, ⟨Hp0, Hp1, Hp2⟩, Hc, Hat, %W, HO⟩
  iapply (Rounds.wp_signal 𝒱₀ ER (xRd m ρ) (c : Thread nD τ) none (dst := (peer 0 c : Thread nD τ)) (κ := K (peer 0 c, none))
      (d := 0) (by rw [duties_bar]; exact Finset.mem_univ _) ((amount_bar m ρ (peer 0 c) 0).trans (by decide)) () (O₂ c) rfl) $$ [HO Ht0 Hp0]
  · isplitr; · iapply (inv_bar m ρ K (peer 0 c)); iexact HR
    isplitl [HO]; · iexact HO
    isplitl [Ht0]; · iexact Ht0
    isplitl [Hp0]; · rw [payload_bar]; iexact Hp0
    iapply (reached_bar m ρ K (peer 0 c)); iexact HR
  iintro HO
  iapply (Rounds.wp_signal 𝒱₀ ER (xRd m ρ) (c : Thread nD τ) none (dst := (peer 1 c : Thread nD τ)) (κ := K (peer 1 c, none))
      (d := 1) (by rw [duties_bar]; exact Finset.mem_univ _) ((amount_bar m ρ (peer 1 c) 1).trans (by decide)) () (O₁ c) rfl) $$ [HO Ht1 Hp1]
  · isplitr; · iapply (inv_bar m ρ K (peer 1 c)); iexact HR
    isplitl [HO]; · iexact HO
    isplitl [Ht1]; · iexact Ht1
    isplitl [Hp1]; · rw [payload_bar]; iexact Hp1
    iapply (reached_bar m ρ K (peer 1 c)); iexact HR
  iintro HO
  iapply (Rounds.wp_signal 𝒱₀ ER (xRd m ρ) (c : Thread nD τ) none (dst := (peer 2 c : Thread nD τ)) (κ := K (peer 2 c, none))
      (d := 2) (by rw [duties_bar]; exact Finset.mem_univ _) ((amount_bar m ρ (peer 2 c) 2).trans (by decide)) () (rem 0 c) rfl) $$ [HO Ht2 Hp2]
  · isplitr; · iapply (inv_bar m ρ K (peer 2 c)); iexact HR
    isplitl [HO]; · iexact HO
    isplitl [Ht2]; · iexact Ht2
    isplitl [Hp2]; · rw [payload_bar]; iexact Hp2
    iapply (reached_bar m ρ K (peer 2 c)); iexact HR
  iintro HO
  iapply (Rounds.wp_wait_rest_token 𝒱₀ ER (xRd m ρ) (c : Thread nD τ) none (κ := K (c, none))
      (wpE_semWait_eq 𝒱₀ (c : Thread nD τ) none Set.univ) (Set.mem_univ _) () (O := rem 0 c) (W := W) (R := 0) (m := 0) (T := ∅)
      (by rw [expect_bar]; decide)) $$ [Hc HO Hat]
  · isplitr; · iapply (inv_bar m ρ K c); iexact HR
    isplitl [Hc]; · iexact Hc
    isplitl [HO]; · iexact HO
    isplitr
    · iapply (mayWait_rem c (.reg barS) 0 1 (Nat.le_of_eq (lv_bar c)) (fun ks h => by omega)); iexact Hlev
    iexact Hat
  iintro ⟨HO, Hat, -, Hpay⟩
  ihave Hp := (Entails.of_eq (rest_bar m ρ c)) $$ Hpay
  imod (Rounds.cell_close ER (xRd m ρ) (Set.mem_univ (K (c, none))) (fun h => h) (R := 0 + 1) (duties_later m ρ (barCell c))) $$ [Hat] with HzB
  · isplitr; · iapply (inv_bar m ρ K c); iexact HR
    iexact Hat
  rw [wp_ret]; imodintro
  isplitl [Hp]; · iexact Hp
  isplitl [HzB]; · iexact HzB
  iexists _; iexact HO

/-- The copy. -/
theorem wp_copy (c : Dev nD) (f : CA F) :
    iprop((((c : Thread nD τ).loc cc0_stg0_0) ↦{fullShare} f) ∗ (∃ g : CA F, ((c : Thread nD τ).loc cc0_scratch0) ↦{fullShare} g))
      ⊢ WP c copyP fun _ => iprop((((c : Thread nD τ).loc cc0_stg0_0) ↦{fullShare} f) ∗ (((c : Thread nD τ).loc cc0_scratch0) ↦{fullShare} f)) := by
  unfold copyP
  simp only [Prog.lift, Prog.bind_op, Prog.bind_ret]
  iintro ⟨Hx, %g, Ha⟩
  iapply (wp_load 𝒱₀ (c : Thread nD τ) none Set.univ (m := xM) (Finset.subset_univ _)) $$ Hx; iintro Hx
  rw [read_x]
  iapply (wp_load 𝒱₀ (c : Thread nD τ) none Set.univ (m := aM) (Finset.subset_univ _)) $$ Ha; iintro Ha
  iapply (wp_store 𝒱₀ (c : Thread nD τ) none Set.univ (m := aM) (r := rectW) (Mk := Finset.univ) (Finset.subset_univ _)) $$ Ha; iintro Ha
  rw [write_copy, wp_ret]; imodintro
  isplitl [Hx] <;> iassumption

end Cert.KernelIdeal.Hand

end
-- ==== Proof.Oblig.lean ====
/-
What a device's kernel starts from and ends with, and the body's obligation to the pipeline library.
-/
module

public import proofs.«01_k».proof.Proof.Body

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The exchange's ghost state device `c` starts from: the records; its positions at round 0 of its cells; the tokens of
    the duties it pays. -/
def ghost (K : Dev nD × CIx → ℕ) (c : Dev nD) : sProp 𝕄 :=
  iprop(records m ρ K
    ∗ (atPos ER (barCell c) 0 ∅ 0 ∗ (bigSep Finset.univ fun x : XIx => atPos ER (sndCell c x.1 x.2) 0 ∅ 0) ∗ bigSep Finset.univ fun x : XIx => atPos ER (rcvCell c x.1 x.2) 0 ∅ 0)
    ∗ (bigSep Finset.univ fun a : Fin 3 => dutyTok ER (barCell (peer a c)) 0 a)
    ∗ (bigSep Finset.univ fun x : XIx => dutyTok ER (sndCell c x.1 x.2) 0 0)
    ∗ bigSep Finset.univ fun x : XIx => dutyTok ER (rcvCell (peer (ax x.1 x.2) c) x.1 x.2) 0 0)

/-- The credit of what is to come in on device `c`. -/
def credits (c : Dev nD) : sProp 𝕄 :=
  iprop(cred (tallyAt (barCell c) () 3) ∗ bigSep Finset.univ fun x : XIx => cred (tallyAt (rcvCell c x.1 x.2) () (N x.1)))

/-- What device `c` starts from: its ghost state, the credit of what is to come in, and the levels. -/
def start (c : Dev nD) : sProp 𝕄 := iprop((∃ K, ghost m ρ K c) ∗ credits c ∗ levAts L lv)

/-- The two scratch buffers at some contents. -/
def scratch (c : Dev nD) : sProp 𝕄 :=
  iprop((∃ f : CA F, ((c : Thread nD τ).loc cc0_scratch0) ↦{fullShare} f) ∗ ∃ f : CT F, ((c : Thread nD τ).loc cc0_scratch1) ↦{fullShare} f)

/-- The own cells closed at zero. -/
def closed (c : Dev nD) : sProp 𝕄 :=
  iprop((bigSep Finset.univ fun x : XIx => semVal (sndCell c x.1 x.2) 0) ∗ bigSep Finset.univ fun x : XIx => semVal (rcvCell c x.1 x.2) 0)

/-- Before the point: what the device starts from, and the scratch buffers. -/
def Φ₀ (c : Dev nD) : sProp 𝕄 := iprop(start m ρ c ∗ scratch c)
/-- After the point: the scratch buffers, and every cell closed at zero, the barrier's too. -/
def Φ₁ (c : Dev nD) : sProp 𝕄 := iprop(scratch c ∗ closed c ∗ semVal (barCell c) 0)

/-- The pipeline's data: what the windows' arrays hold at first, what the body leaves staged (the operand as it was, the result), the states before and after the point, and what is owed there. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The grid has one point. -/
theorem cfg0_N : cfg0.N = 1 := by decide
/-- That point. -/
def t₀ : Fin cfg0.N := ⟨0, by rw [cfg0_N]; decide⟩
/-- Every point is that point. -/
theorem fin_N (t : Fin cfg0.N) : t = t₀ := by
  obtain ⟨t, ht⟩ := t; have := cfg0_N; exact Fin.ext (by simp only [t₀]; omega)

/-- A conjunction over the windows is the operand's part and the result's part. -/
theorem bigSep_W (Φ : Fin cfg0.W → sProp 𝕄) : bigSep Finset.univ Φ = iprop(Φ (0 : Fin 2) ∗ Φ (1 : Fin 2)) := bigSep_W0 Φ

/-- The operand is fetched at the point. -/
theorem fetch_0 (t : Fin cfg0.N) : (cfg0.win (0 : Fin 2)).fetch t = true := by rw [fin_N t]; rfl

/-- Owning a whole buffer through its view with contents `X` is owning the buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Entering and leaving the steps -/

/-- Per-transfer facts in the order of the chunks. -/
theorem by_chunk (Φ : XIx → sProp 𝕄) :
    bigSep Finset.univ Φ = bigSep Finset.univ fun k : Fin 6 => iprop(Φ (k, 0) ∗ Φ (k, 1) ∗ Φ (k, 2)) := by
  rw [bigSep_univ_prod]; exact bigSep_congr fun k _ => bigSep_fin3 _

/-- The output's pieces at one array are its pieces at some array each. -/
theorem out_some (c : Dev nD) (f : CA F) :
    (bigSep Finset.univ fun k => (outPts c k f : sProp 𝕄)) ⊢ bigSep Finset.univ fun k => iprop(∃ f, outPts c k f) :=
  bigSep_mono fun k _ => show _ ⊢ iprop(∃ f, outPts c k f) from by iintro H; iexists f; iexact H

/-- The scratch of the incoming slabs, whole, is the slabs at some contents each. -/
theorem slab_some (c : Dev nD) (f : CT F) :
    ((((c : Thread nD τ).loc cc0_scratch1) ↦{fullShare} f) : sProp 𝕄) ⊢ bigSep Finset.univ fun x : XIx => slabAny c x := by
  rw [slabPts_all]
  exact bigSep_mono fun x _ => show _ ⊢ slabAny c x from by unfold slabAny; iintro H; iexists f; iexact H

/-- The state before the first step. -/
theorem st_intro (c : Dev nD) (f : CA F) :
    iprop((((c : Thread nD τ).loc cc0_scratch0) ↦{fullShare} xstg m ρ c) ∗ (((c : Thread nD τ).loc cc0_stg1_0) ↦{fullShare} f)
        ∗ (bigSep Finset.univ fun x : XIx => Todo c x.1 x.2) ∗ ow c (rem 0 c))
      ⊢ St m ρ c 0 := by
  have h : St m ρ c 0 = iprop((bigSep Finset.univ fun k => iprop(accPts c k (acc m ρ 0 c) ∗ (∃ f, outPts c k f) ∗ (Todo c k 0 ∗ Todo c k 1 ∗ Todo c k 2))) ∗ ow c (rem 0 c)) := by
    unfold St
    rw [bigSep_congr (s := Finset.univ) fun (k : Fin 6) _ => show Ch m ρ c k (ph 0 k) = iprop(accPts c k (acc m ρ 0 c) ∗ (∃ f, outPts c k f) ∗ (Todo c k 0 ∗ Todo c k 1 ∗ Todo c k 2)) from by
      rw [show ph 0 k = 0 from by unfold ph; omega]; rfl]
  rw [h, bigSep_sep', bigSep_sep', by_chunk, accPts_all, outPts_all]
  iintro ⟨Ha, Hout, HT, Ho⟩
  isplitr [Ho]
  · isplitl [Ha]; · iexact Ha
    isplitl [Hout]
    · iapply (out_some c f)
      iexact Hout
    iexact HT
  iexact Ho

/-- What the state after the last step is. -/
theorem st_exit (c : Dev nD) :
    St m ρ c 24 ⊢ iprop((((c : Thread nD τ).loc cc0_stg1_0) ↦{fullShare} outAt m ρ c) ∗ scratch c ∗ closed c ∗ ow c 0) := by
  have h : St m ρ c 24 = iprop((bigSep Finset.univ fun k => iprop(accPts c k (acc m ρ 3 c) ∗ outPts c k (outAt m ρ c) ∗ (Done m ρ c k 0 ∗ Done m ρ c k 1 ∗ Done m ρ c k 2))) ∗ ow c 0) := by
    unfold St
    rw [rem_end 24 (by omega), bigSep_congr (s := Finset.univ) fun (k : Fin 6) _ => show Ch m ρ c k (ph 24 k) = iprop(accPts c k (acc m ρ 3 c) ∗ outPts c k (outAt m ρ c) ∗ (Done m ρ c k 0 ∗ Done m ρ c k 1 ∗ Done m ρ c k 2)) from by
      rw [show ph 24 k = 4 from by unfold ph; have := k.isLt; omega]; rfl]
  rw [h, bigSep_sep', bigSep_sep', ← by_chunk (fun x : XIx => Done m ρ c x.1 x.2), ← accPts_all, ← outPts_all]
  unfold Done scratch closed
  rw [bigSep_sep', bigSep_sep', ← slabPts_all]
  iintro ⟨⟨Ha, Hout, Hs, HzS, HzR⟩, Ho⟩
  isplitl [Hout]; · iexact Hout
  isplitl [Ha Hs]
  · isplitl [Ha]
    · iexists _; iexact Ha
    · iexists _; iexact Hs
  isplitl [HzS HzR]
  · isplitl [HzS] <;> iassumption
  iexact Ho

/-! ## The body -/

section Body
variable (K : Dev nD × CIx → ℕ)

/-- A staging buffer of device `c`, owned whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body between its ghost state and its results. -/
theorem wp_body (c : Dev nD) (g1 : CA F) :
    iprop(ghost m ρ K c ∗ credits c ∗ levAts L lv ∗ scratch c ∗ ow c (O₀ c)
        ∗ (((c : Thread nD τ).loc cc0_stg0_0) ↦{fullShare} xstg m ρ c) ∗ (((c : Thread nD τ).loc cc0_stg1_0) ↦{fullShare} g1))
      ⊢ WP c (bodyP (devB c) (devT c)) fun _ => iprop(Φ₁ c ∗ ow c 0
        ∗ (((c : Thread nD τ).loc cc0_stg0_0) ↦{fullShare} xstg m ρ c) ∗ (((c : Thread nD τ).loc cc0_stg1_0) ↦{fullShare} outAt m ρ c)) := by
  rw [devB_eq, devT_eq]
  unfold bodyP ghost credits scratch
  rw [WP_bind, bigSep_fin3]
  iintro ⟨⟨#HR, ⟨HaB, HaS, HaR⟩, HtB, HtS, HtR⟩, ⟨HcB, HcR⟩, #Hlev, ⟨Ha, %f, Hs⟩, Ho, Hx, Hout⟩
  iapply (wp_wand frame (wpE (defs₀ (F := F)) 𝒱₀ (c : Thread nD τ) none) Set.univ) $$ [HaB HtB HcB Hs Ho]
  · iapply (wp_bar m ρ K c)
    isplitr; · iexact HR
    isplitr; · iexact Hlev
    isplitl [HtB]; · iexact HtB
    isplitl [Hs]
    · iapply (slab_some c f)
      iexact Hs
    isplitl [HcB]; · iexact HcB
    isplitl [HaB] <;> iassumption
  iintro %_ ⟨Hs, HzB, Ho⟩
  rw [WP_bind]
  iapply (wp_wand frame (wpE (defs₀ (F := F)) 𝒱₀ (c : Thread nD τ) none) Set.univ) $$ [Hx Ha]
  · iapply (wp_copy c (xstg m ρ c))
    isplitl [Hx] <;> iassumption
  iintro %_ ⟨Hx, Ha⟩
  iapply (wp_wand frame (wpE (defs₀ (F := F)) 𝒱₀ (c : Thread nD τ) none) Set.univ) $$ [Ha Hout HtS HtR Hs HcR HaS HaR Ho]
  · iapply (wp_rest m ρ K c)
    isplitr
    · isplitr; · iexact HR
      iexact Hlev
    iapply (st_intro m ρ c g1)
    isplitl [Ha]; · iexact Ha
    isplitl [Hout]; · iexact Hout
    isplitr [Ho]
    · unfold Todo
      simp only [bigSep_sep']
      isplitl [HtS]; · iexact HtS
      isplitl [HtR]; · iexact HtR
      isplitl [Hs]; · unfold slabAny; iexact Hs
      isplitl [HcR]; · iexact HcR
      isplitl [HaS] <;> iassumption
    iexact Ho
  iintro %_ HS
  ihave HS := (st_exit m ρ c) $$ HS
  icases HS with ⟨Hout, Hs, Hz, Ho⟩
  unfold Φ₁
  isplitl [Hs Hz HzB]
  · isplitl [Hs]; · iexact Hs
    isplitl [Hz] <;> iassumption
  isplitl [Ho]; · iexact Ho
  isplitl [Hx] <;> iassumption

/-- What the body starts from, as the pipeline library states it. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body has to end with, as the pipeline library states it. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The printed body, from what the pipeline hands it to what the pipeline takes back. -/
theorem sound_body (c : Dev nD) :
    bodyPre m ρ c ⊢ WP c (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) fun _ => bodyPost m ρ c := by
  rw [body_eq]
  simp only [wp_deviceId]
  unfold bodyPre Φ₀ start
  iintro ⟨⟨⟨⟨%K, Hg⟩, Hcr, Hlev⟩, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (wp_wand frame (wpE (defs₀ (F := F)) 𝒱₀ (c : Thread nD τ) none) Set.univ) $$ [Hg Hcr Hlev Hscr HO Hx Hout]
  · iapply (wp_body m ρ K c g1)
    isplitl [Hg]; · iexact Hg
    isplitl [Hcr]; · iexact Hcr
    isplitl [Hlev]; · iexact Hlev
    isplitl [Hscr]; · iexact Hscr
    isplitl [HO]; · unfold ow; iexists W; iexact HO
    isplitl [Hx] <;> iassumption
  iintro %_ ⟨H1, Ho, Hx, Hout⟩
  unfold bodyPost ow Dat.owesAt Pipeline.owesWithin
  icases Ho with ⟨%W', HO⟩
  rw [show (dats m ρ 0 c).owed t₀.succ = 0 from rfl]
  isplitl [H1]; · iexact H1
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Body

end Cert.KernelIdeal.Hand

end
-- ==== Proof.Launch.lean ====
/-
The launch: the cells and tokens handed out, the credit dealt around the partners, and the run of @main.
-/
module

public import proofs.«01_k».proof.Proof.Oblig
public import Idealize.ShloMosaic.Lib.Pipeline.CollectiveSegs
public import Idealize.ShloMosaic.Lib.Pipeline.ValueKit.Geometry

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over the cells -/

/-- A conjunction over optional items is the part at `none` and the rest. -/
theorem bigSep_option {I : Type} [Fintype I] [DecidableEq I] (Φ : Option I → sProp 𝕄) :
    bigSep Finset.univ Φ = iprop(Φ none ∗ bigSep Finset.univ fun i : I => Φ (some i)) := by
  rw [bigSep_univ_at Φ none, show (Finset.univ : Finset (Option I)).erase none = Finset.univ.map Function.Embedding.some from by
    ext x; cases x <;> simp, bigSep_map]; rfl

/-- A conjunction over a device's own cells is the send cells' part and the receive cells' part. -/
theorem bigSep_OIx (Φ : OIx → sProp 𝕄) :
    bigSep Finset.univ Φ = iprop((bigSep Finset.univ fun x : XIx => Φ (false, x)) ∗ bigSep Finset.univ fun x : XIx => Φ (true, x)) := by
  rw [bigSep_univ_prod, bigSep_univ_eq_bigSepL [false, true] (by decide) (by decide)]; rfl

/-- A conjunction over devices and items, each item's fact taken at its device's partner instead. -/
theorem around {J : Type} [Fintype J] [DecidableEq J] (a : J → Fin 3) (Φ : Dev nD → J → sProp 𝕄) :
    (bigSep Finset.univ fun c : Dev nD => bigSep Finset.univ fun j : J => Φ c j)
      = bigSep Finset.univ fun c : Dev nD => bigSep Finset.univ fun j : J => Φ (peer (a j) c) j := by
  let e : Dev nD × J ≃ Dev nD × J := ⟨fun p => (peer (a p.2) p.1, p.2), fun p => (peer (a p.2) p.1, p.2),
    fun p => by simp only [peer_peer], fun p => by simp only [peer_peer]⟩
  rw [← bigSep_univ_prod (fun p : Dev nD × J => Φ p.1 p.2), bigSep_univ_equiv e, bigSep_univ_prod]; rfl

/-! ## The launch -/

/-- The send and receive semaphores are the kernel's own, different from one another and from the staging semaphores. -/
theorem ownSemFacts : Pipeline.OwnSemFacts cfg0.spec osem := by decide +kernel

/-- Every window holds the whole of its array. -/
theorem share_eq (c : Dev nD) (w : Fin cfg0.W) : (dats m ρ 0 c).share w = fullShare := by unfold Dat.share; split <;> rfl

/-- Cells of different devices or different indices are different. -/
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the cells of the exchange. -/
def xCells : Finset (GSem nD τ sig) := Finset.univ.map ⟨kcell, kcell_injective⟩

/-- A device's own cells' duty tokens as minted: the barrier's three, and one of each other cell. -/
abbrev tokOf (cj : Dev nD × (Fin 3 ⊕ OIx)) : GSem nD τ sig × ℕ × Fin 3 := match cj.2 with
  | .inl a => (barCell cj.1, 0, a) | .inr i => (kcell (cj.1, some i), 0, 0)
/-- The duty tokens are different from one another. -/
theorem tokOf_injective : Function.Injective tokOf := by
  rintro ⟨c, j | j⟩ ⟨c', j' | j'⟩ h
  · have h1 : (c, (none : CIx)) = (c', none) := kcell_injective (congrArg Prod.fst h)
    have h2 : j = j' := congrArg (fun x : GSem nD τ sig × ℕ × Fin 3 => x.2.2) h
    rw [(Prod.mk.inj h1).1, h2]
  · have h1 : (c, (none : CIx)) = (c', some j') := kcell_injective (congrArg Prod.fst h)
    exact nomatch (Prod.mk.inj h1).2
  · have h1 : (c, some j) = (c', (none : CIx)) := kcell_injective (congrArg Prod.fst h)
    exact nomatch (Prod.mk.inj h1).2
  · have h1 : (c, some j) = (c', some j') := kcell_injective (congrArg Prod.fst h)
    rw [(Prod.mk.inj h1).1, Option.some.inj (Prod.mk.inj h1).2]
/-- All the duty tokens of the exchange. -/
def xToks : Finset (GSem nD τ sig × ℕ × Fin 3) := Finset.univ.map ⟨tokOf, tokOf_injective⟩

/-- The ghost state at launch: the pipeline library's and the exchange's. -/
def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun a : Fin 3 => dutyTok ER (barCell c) 0 a) ∗ (bigSep Finset.univ fun x : XIx => dutyTok ER (sndCell c x.1 x.2) 0 0)
    ∗ bigSep Finset.univ fun x : XIx => dutyTok ER (rcvCell c x.1 x.2) 0 0)

/-- What the launch deals device `c`. -/
def G (c : Dev nD) : sProp 𝕄 :=
  iprop((bigSep Finset.univ fun i : CIx => roundState ER (xRd m ρ) (kcell (c, i)) 0)
    ∗ (bigSep Finset.univ fun i : CIx => iprop(atPos ER (kcell (c, i)) 0 ∅ 0 ∗ reached ER (kcell (c, i)) 0)) ∗ toks c)

/-- What the global step makes of it. -/
def G' (c : Dev nD) : sProp 𝕄 := iprop(∃ K, ghost m ρ K c)

/-- The exchange's ghost state at launch deals every device its cells' states, positions and tokens. -/
theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun i : CIx => Φ (kcell (c, i)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_OIx]; rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are the send and receive semaphores at zero. -/
theorem ownSems0_eq (c : Dev nD) : (Pipeline.ownSems0 (Ix := Unit) (Name := ℕ) (U := UU) (Lvl := ℕ) (Val := Elt F) (τ := τ) osem c : sProp 𝕄)
    = closed c := by
  unfold Pipeline.ownSems0 closed; rw [bigSep_OIx]; rfl
/-- The only other semaphore is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores at zero are its cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [unscopedSems0_eq, bigSep_option]
  unfold Pipeline.ownSems0
  iintro ⟨HS, HB⟩
  isplitl [HB]; · iexact HB
  iexact HS

/-- The cells of one device, at zero with their round states, become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (xRd m ρ) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (xRd m ρ) (kcell (c, i)) 0)
      ⊢ (|={Set.univ}=> bigSep Finset.univ fun i => iprop(∃ κ : ℕ, cellInv ER (xRd m ρ) κ (kcell (c, i))) : sProp 𝕄) from by
        rw [← bigSep_sep']
        exact (bigSep_mono fun i _ => (Rounds.body_intro ER (xRd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def payToks (c : Dev nD) : sProp 𝕄 :=
  iprop((bigSep Finset.univ fun a : Fin 3 => dutyTok ER (barCell (peer a c)) 0 a) ∗ (bigSep Finset.univ fun x : XIx => dutyTok ER (sndCell c x.1 x.2) 0 0)
    ∗ bigSep Finset.univ fun x : XIx => dutyTok ER (rcvCell (peer (ax x.1 x.2) c) x.1 x.2) 0 0)
/-- What device `c` keeps to itself: its positions and the tokens of the duties it pays. -/
def linear (c : Dev nD) : sProp 𝕄 :=
  iprop((bigSep Finset.univ fun i : CIx => atPos ER (kcell (c, i)) 0 ∅ 0) ∗ payToks c)

/-- The records and what a device keeps to itself are its ghost state. -/
theorem ghost_intro (K : Dev nD × CIx → ℕ) (c : Dev nD) : iprop(records m ρ K ∗ linear c) ⊢ G' m ρ c := by
  unfold linear payToks G' ghost
  rw [bigSep_option, bigSep_OIx]
  iintro ⟨#HR, ⟨HaB, HaS, HaR⟩, HtB, HtS, HtR⟩
  iexists K
  isplitr; · iexact HR
  isplitl [HaB HaS HaR]
  · isplitl [HaB]; · iexact HaB
    isplitl [HaS]; · iexact HaS
    iexact HaR
  isplitl [HtB]; · iexact HtB
  isplitl [HtS] <;> iassumption

/-- The tokens dealt around: each barrier token and each receive token to the partner that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun a : Fin 3 => a) fun c a => (dutyTok ER (barCell c) 0 a : sProp 𝕄),
    around (fun x : XIx => ax x.1 x.2) fun c x => (dutyTok ER (rcvCell c x.1 x.2) 0 0 : sProp 𝕄)]

/-- A fact that may be used repeatedly can be handed to every item of a conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices, named once and shared, with the tokens dealt around, give every device its ghost state. -/
theorem regroup :
    (bigSep Finset.univ fun c : Dev nD => iprop((bigSep Finset.univ fun i => iprop(∃ κ : ℕ, cellInv ER (xRd m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × CIx => iprop(∃ κ : ℕ, cellInv ER (xRd m ρ) κ (kcell ci))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ci : Dev nD × CIx => (reached ER (kcell ci) 0 : sProp 𝕄))]
  iintro ⟨HI, ⟨Hat, #HR⟩, Htok⟩
  ihave HK := (BI.bigSep_exists_pi Finset.univ (fun (ci : Dev nD × CIx) (κ : ℕ) => (cellInv ER (xRd m ρ) κ (kcell ci) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : CIx => (atPos ER (kcell (c, i)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Two cells are equal when their devices and their indices are. -/
theorem kcell_eq_iff {a b : Dev nD} {i j : CIx} : kcell (a, i) = kcell (b, j) ↔ a = b ∧ i = j :=
  ⟨fun h => Prod.mk.inj (kcell_injective h), fun ⟨h1, h2⟩ => by rw [h1, h2]⟩
/-- Two barrier cells are equal when their devices are. -/
theorem bar_eq_iff {a b : Dev nD} : barCell a = barCell b ↔ a = b :=
  ⟨fun h => (kcell_eq_iff (i := none) (j := none).mp h).1, fun h => h ▸ rfl⟩
/-- Two receive cells are equal when their devices and their transfers are. -/
theorem rcv_eq_iff {a b : Dev nD} {x y : XIx} : rcvCell a x.1 x.2 = rcvCell b y.1 y.2 ↔ a = b ∧ x = y :=
  ⟨fun h => ⟨(kcell_eq_iff (i := some (true, x)) (j := some (true, y)).mp h).1,
    (Prod.mk.inj (Option.some.inj (kcell_eq_iff (i := some (true, x)) (j := some (true, y)).mp h).2)).2⟩, fun ⟨h1, h2⟩ => by rw [h1, h2]⟩
/-- No barrier cell is a receive cell. -/
theorem bar_ne_rcv {a b : Dev nD} {x : XIx} : barCell a ≠ rcvCell b x.1 x.2 :=
  fun h => nomatch (kcell_eq_iff (i := none) (j := some (true, x)).mp h).2
/-- Being the partner across an axis, read from either side. -/
theorem eq_peer_iff {a : Fin 3} {c d : Dev nD} : c = peer a d ↔ d = peer a c :=
  ⟨fun h => by rw [h, peer_peer], fun h => by rw [h, peer_peer]⟩

/-- The credit of the transfers puts nothing on a barrier cell. -/
theorem rem_bar (n : ℕ) (d c : Dev nD) : rem n d (barCell c) () = 0 :=
  Nat.eq_zero_of_not_pos fun h => by obtain ⟨x, _, hx⟩ := rem_pos h; exact bar_ne_rcv hx

/-- What device `d` owes device `c`'s barrier cell: a unit for each axis across which `d` is `c`'s partner. -/
theorem owed_bar (d c : Dev nD) : O₀ d (barCell c) () = (if d = peer 2 c then 1 else 0) + (if d = peer 1 c then 1 else 0) + (if d = peer 0 c then 1 else 0) := by
  unfold O₀ O₂ O₁
  simp only [Pi.add_apply, Finsupp.add_apply, tallyAt_apply, rem_bar, bar_eq_iff, and_true, Nat.zero_add, eq_peer_iff (c := c) (d := d)]

/-- What device `d` owes a receive cell of device `c`: the transfer's credit if `d` is the partner that sends it, otherwise nothing. -/
theorem owed_rcv (d c : Dev nD) (x : XIx) : O₀ d (rcvCell c x.1 x.2) () = if d = peer (ax x.1 x.2) c then N x.1 else 0 := by
  unfold O₀ O₂ O₁ rem
  simp only [Pi.add_apply, Finsupp.add_apply, tallyAt_apply, Finset.sum_apply, Finsupp.finset_sum_apply, rcv_eq_iff, and_true]
  rw [if_neg (fun h => bar_ne_rcv h.symm), if_neg (fun h => bar_ne_rcv h.symm), if_neg (fun h => bar_ne_rcv h.symm),
    Finset.sum_eq_single x (fun y _ hy => if_neg fun h => hy h.2.symm) (fun h => absurd (Finset.mem_filter.mpr ⟨Finset.mem_univ x, Nat.zero_le (ord x)⟩) h)]
  simp only [and_true, Nat.add_zero, eq_peer_iff (c := c) (d := d)]

/-- All devices together owe each barrier cell three units. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 0 c) fun _ => 1, Finset.sum_ite_eq' Finset.univ (peer 1 c) fun _ => 1, Finset.sum_ite_eq' Finset.univ (peer 2 c) fun _ => 1,
    if_pos (Finset.mem_univ _), if_pos (Finset.mem_univ _), if_pos (Finset.mem_univ _)]

/-- All devices together owe each receive cell the credit of its transfer. -/
theorem launch_rcv (c : Dev nD) (x : XIx) :
    tallyOn (rcvCell c x.1 x.2) (launchCredit (Pipeline.owing O₀) 0 (rcvCell c x.1 x.2)) = (tallyAt (rcvCell c x.1 x.2) () (N x.1) : CellTallies nD τ sig Unit) := by
  unfold tallyAt; refine congrArg _ (Finsupp.ext fun u => ?_); cases u
  rw [Pipeline.launchCredit_owing, Finsupp.single_eq_same, Finset.sum_congr rfl fun d _ => owed_rcv d c x, Finset.sum_ite_eq' Finset.univ (peer (ax x.1 x.2) c) fun _ => N x.1,
    if_pos (Finset.mem_univ _)]

/-- The barrier and the receive semaphores among all. -/
def inSem : Option XIx ↪ SemLoc sig :=
  ⟨fun o => csem (o.map fun x => (true, x)), fun a b h => Option.map_injective (fun _ _ h => (Prod.mk.inj h).2) (csem_injective h)⟩

/-- The credit dealt at launch holds the credit each device waits for. -/
theorem creds (c : Dev nD) : (Pipeline.launchCred O₀ c : sProp 𝕄) ⊢ credits c := by
  unfold Pipeline.launchCred credits
  have h (x : XIx) : (cred (tallyAt (rcvCell c x.1 x.2) () (N x.1)) : sProp 𝕄)
      = cred (tallyOn ((c : Thread nD τ), inSem (some x)) (launchCredit (Pipeline.owing O₀) 0 ((c : Thread nD τ), inSem (some x)))) :=
    congrArg cred (launch_rcv c x).symm
  refine BI.Entails.trans (bigSep_subset (Finset.subset_univ (Finset.univ.map inSem))) ?_
  rw [bigSep_map, bigSep_option, ← launch_bar, bigSep_congr (s := Finset.univ) fun (x : XIx) _ => h x]
  exact BI.Entails.refl _

/-! ### The theorem's side conditions -/

/-- What the launch gives a device is what its kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- With the scratch buffers, that is the state before the pipeline's one point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- The state after that point gives back the scratch buffers and every semaphore at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, Hz, HzB⟩
  isplitl [HzB]; · iexact HzB
  isplitl [Hz]; · iexact Hz
  iexact Hr

/-- The pipeline's own waits on its staging semaphores are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ### The run -/

/-- The contents of window `w`'s array on device `c` after the run. -/
def finalA (c : Dev nD) (w : Fin cfg0.W) : Buf (Elt F) ((cfg0.win w).arr.view.loc (c : Thread nD τ)) := (dats m ρ 0 c).arrAt w cfg0.N

/-- The state after the run: on every device each window's array holds its final contents. -/
def QC : PUnit × MemSt nD τ sig (Elt F) → Prop := fun r =>
  ∀ c : Dev nD, ∀ w : Fin cfg0.W, r.2.mem ((cfg0.win w).arr.view.loc (c : Thread nD τ)) = finalA m ρ c w

/-- At the compiled mesh of eight devices, for any float values, from any memory with zero counters: every weakly fair
    execution of @main terminates, and every final state has each device's arrays at the computed contents and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result's array after the run holds what the body left in its staging buffer. -/
theorem finalA_o (c : Dev nD) : finalA m ρ c (1 : Fin 2) = outAt m ρ c :=
  (dats m ρ 0 c).arrAt_eq_of_after_last (1 : Fin 2) t₀ (by decide +kernel) _ fun j => rfl

end Cert.KernelIdeal.Hand

end
-- ==== Proof.Value.lean ====
/-
The value of the result at the extended reals: after three exchange stages every device holds the sum of all eight
blocks, whatever the order of the stages, and the activation of that sum is what the reference computes.
-/
module

public import proofs.«01_k».proof.Defs
public import proofs.«01_k».proof.Proof.Launch
public import proofs.«01_k».proof.Proof.Gen.ReferenceIdeal.Run
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The eight devices reached from `c` by crossing or not crossing each axis, in the order chunk `k` meets them, are
    all the devices, each once. -/
theorem cube (k : Fin 6) (c : Dev nD) :
    ({c, peer (ax k 0) c, peer (ax k 1) c, peer (ax k 0) (peer (ax k 1) c), peer (ax k 2) c, peer (ax k 0) (peer (ax k 2) c),
      peer (ax k 1) (peer (ax k 2) c), peer (ax k 0) (peer (ax k 1) (peer (ax k 2) c))} : Multiset (Dev nD)) = Finset.univ.val := by
  revert k c; decide +kernel

/-- Device `c`'s argument. -/
def arg (c : Dev nD) : S512x256.Idx → EReal := m ((c : Thread nD τ).loc main_arg0)

/-- The sum of the eight devices' arguments at an index. -/
def total (i : S512x256.Idx) : EReal := ∑ d : Dev nD, arg m d i

/-- The staged operand is the device's argument. -/
theorem xstg_eq (c : Dev nD) : xstg m ρ c = arg m c := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- After the three stages every device holds the total. -/
theorem acc_three (c : Dev nD) (i : S512x256.Idx) : acc m ρ 3 c i = total m i := by
  have h : total m i = (Multiset.map (fun d => arg m d i) Finset.univ.val).sum := rfl
  rw [h, ← cube (chunkOf (i 0).val) c]
  simp only [Multiset.insert_eq_cons, Multiset.map_cons, Multiset.sum_cons, Multiset.map_singleton, Multiset.sum_singleton]
  have hs : ∀ s d, acc m ρ (s + 1) d i = (acc m ρ s d i + acc m ρ s (peer (ax (chunkOf (i 0).val) (Fin.ofNat 3 s)) d) i : EReal) := fun _ _ => rfl
  have h0 : ∀ d, acc m ρ 0 d i = arg m d i := fun d => congrFun (xstg_eq m ρ d) i
  rw [hs, hs, hs, hs, hs, hs, hs]
  simp only [h0]
  show (_ + _ + (_ + _) + (_ + _ + (_ + _)) : EReal) = _
  generalize chunkOf (i 0).val = k
  show arg m c i + arg m (peer (ax k 0) c) i + (arg m (peer (ax k 1) c) i + arg m (peer (ax k 0) (peer (ax k 1) c)) i)
    + (arg m (peer (ax k 2) c) i + arg m (peer (ax k 0) (peer (ax k 2) c)) i
      + (arg m (peer (ax k 1) (peer (ax k 2) c)) i + arg m (peer (ax k 0) (peer (ax k 1) (peer (ax k 2) c))) i)) = _
  ac_rfl

/-- The result of every device is the activation of the total. -/
theorem outAt_eq (c : Dev nD) (i : S512x256.Idx) : outAt m ρ c i = act1 (F := Ideal) (total m i) :=
  congrArg act1 (acc_three m ρ c i)

end Cert.KernelIdeal.Hand

namespace Cert.ReferenceIdeal.Hand

open Cert.ReferenceIdeal Cert.ReferenceIdeal.Gen
open Idealize.ShloMosaic Idealize.ShloMosaic.TcCoe Idealize.SL.Sem

/-- The whole array is cut along its rows into eight blocks. -/
theorem tiles : Layout.Tiles S512x256 S4096x256 0 8 := by decide

/-- The reference's sum over the leading axis of the reshaped array is, at every index, the sum of the eight blocks. -/
theorem sum_eq (x : S4096x256.Idx → EReal) (j : S512x256.Idx) :
    Host.reduceAdd (F := Ideal) (φ := .f32) (shapeCast S8x512x256 x shapeCasts_S4096x256_S8x512x256) (constant S_ .f32 0x00000000#32)
        reducesTo_S8x512x256_S512x256_d0 h_S_ j
      = ∑ d : Fin 8, x (tiles.idx d j) := by
  rw [ValueIdx.hostReduceAdd_apply, Ideal.hostReduceAdd_single _ (by decide)]
  rw [show (constant (F := Ideal) S_ .f32 0x00000000#32 (Shape.Idx.first h_S_) : EReal) = 0 from Ideal.ofBits_zero_f32, zero_add]
  refine Finset.sum_congr rfl fun d _ => ?_
  refine shapeCast_apply _ _ _ _ ?_
  rw [Shape.rowMajor_val_two, Shape.rowMajor_val_three]
  rfl

/-- The reference's result, at every index, is the activation of the sum of the eight blocks. -/
def refOut (x : S4096x256.Idx → EReal) : S512x256.Idx → EReal :=
  fun j => Cert.KernelIdeal.Hand.act1 (F := Ideal) (∑ d : Fin 8, x (tiles.idx d j))

/-- The reference terminates from any memory with zero counters, with its result in place and its argument unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = refOut (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Cert.ReferenceIdeal.Value.run m ρ)
  funext j
  unfold refOut
  rw [← sum_eq (m ((c.tc : Thread nD τ).loc main_arg0)) j]
  rfl

end Cert.ReferenceIdeal.Hand

end
-- ==== Proof.Same.lean ====
/-
The kernel as written and the kernel read at the extended reals are one program: the two texts agree, so the run
proved of the second for any float values is the run of the first.
-/
module

public import proofs.«01_k».proof.Proof.Launch
public import proofs.«01_k».proof.Proof.Gen.Kernel

@[expose] public section

set_option maxRecDepth 16384

namespace Cert.Kernel.Hand

open Idealize.ShloMosaic Idealize.SL.Sem

variable {F : FTy → Type} [FloatOps F]

/-- The two kernel bodies are equal. -/
theorem body_same (a0 h0 a1 h1 a2 h2 a3 h3 a4 a5) :
    Cert.Kernel.cc0_body (F := F) a0 h0 a1 h1 a2 h2 a3 h3 a4 a5 = Cert.KernelIdeal.cc0_body (F := F) a0 h0 a1 h1 a2 h2 a3 h3 a4 a5 := rfl

/-- The two tables of kernel bodies are equal. -/
theorem defs₀_same : Cert.Kernel.defs₀ (F := F) = Cert.KernelIdeal.defs₀ (F := F) := by
  refine congrArg Defs.onTc (funext fun ℓ => funext fun x => ?_)
  match ℓ, x with
  | 0, (t, s) => exact body_same ..
  | ⟨n + 1, h⟩, _ => exact absurd h (by omega)

/-- The two tables of definitions @main is run under are equal. -/
theorem defs_same : Cert.Kernel.defs (F := F) = Cert.KernelIdeal.defs (F := F) :=
  congrArg (Pipeline.defs (Cert.KernelIdeal.pcfgs (F := F))) defs₀_same

open Cert.KernelIdeal.Hand in
/-- The kernel as written, for any float values, from any memory with zero counters: every weakly fair execution
    terminates with each device's arrays at the computed contents and every semaphore counter at zero. -/
theorem run_main (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => QC m ρ r ∧ r.2.sem = fun _ => 0) := by
  rw [defs_same]; exact Cert.KernelIdeal.Hand.run_main m ρ

end Cert.Kernel.Hand
-- ==== Proof.lean ====
/-
The proof of `Cert.Claim`: the kernel runs and leaves its argument and its counters as they were, at bit patterns and
at the extended reals; so does the reference; and at the extended reals every device of the kernel ends holding what the
reference computes from the whole array.
-/
module

public import proofs.«01_k».proof.Defs
public import proofs.«01_k».proof.Proof.Value
public import proofs.«01_k».proof.Proof.Same

@[expose] public section

set_option maxRecDepth 16384

noncomputable section

namespace Cert.Proof

open Idealize.ShloMosaic Idealize.SL.Sem

/-- The kernel at bit patterns terminates, its argument unchanged and every counter at zero. -/
theorem frame_p : Cert.quiescent_Kernel := by
  intro m ρ _
  exact (θ_run Cert.Kernel.defs _ _).mono
    (fun _ h => ⟨fun c => (h.1 c (0 : Fin 2)).trans (Cert.KernelIdeal.Hand.finalA_x (F := Bits) m ρ c), h.2⟩)
    (Cert.Kernel.Hand.run_main (F := Bits) m ρ)

/-- The kernel at the extended reals terminates, its argument unchanged and every counter at zero. -/
theorem frame_pi : Cert.quiescent_KernelIdeal := by
  intro m ρ _
  exact (θ_run Cert.KernelIdeal.defs _ _).mono
    (fun _ h => ⟨fun c => (h.1 c (0 : Fin 2)).trans (Cert.KernelIdeal.Hand.finalA_x m ρ c), h.2⟩)
    (Cert.KernelIdeal.Hand.run_main (F := Ideal) m ρ)

/-- The reference terminates, its argument unchanged and every counter at zero. -/
theorem frame_ri : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Hand.run_ref m ρ)

/-- At the extended reals, each device holding its block of the array the reference is given, every device ends holding
    the reference's result, and both leave their arguments unchanged. -/
theorem value : Cert.algebraic_KernelIdeal_ReferenceIdeal := by
  intro m ρ m' ρ' _ hagree
  refine ⟨Cert.ReferenceIdeal.Hand.refOut (m' (((0 : Dev Cert.ReferenceIdeal.nD).tc : Thread _ Cert.ReferenceIdeal.τ).loc Cert.ReferenceIdeal.main_arg0)), ?_, ?_⟩
  · refine (θ_run Cert.KernelIdeal.defs _ _).mono
      (fun _ h c => ⟨(h.1 c (1 : Fin 2)).trans ((Cert.KernelIdeal.Hand.finalA_o m ρ c).trans ?_),
        (h.1 c (0 : Fin 2)).trans (Cert.KernelIdeal.Hand.finalA_x m ρ c)⟩) (Cert.KernelIdeal.Hand.run_main (F := Ideal) m ρ)
    funext i
    rw [Cert.KernelIdeal.Hand.outAt_eq]
    exact congrArg (Cert.KernelIdeal.Hand.act1 (F := Ideal)) (Finset.sum_congr rfl fun d _ => congrFun (hagree d) i)
  · exact (θ_run Cert.ReferenceIdeal.defs _ _).mono (fun _ h => h 0) (Cert.ReferenceIdeal.Hand.run_ref m' ρ')

/-- Everything the certificate claims. -/
theorem claim : Cert.Claim :=
  ⟨Cert.Kernel.Gen.facts, Cert.KernelIdeal.Gen.facts, Cert.ReferenceIdeal.Gen.facts, frame_p, frame_pi, frame_ri, trivial, value⟩

end Cert.Proof

end
